-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x38AAAAAB#32 ((1 / 12288 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2x128x12288 : Shape := ⟨4, ![4, 2, 128, 12288]⟩
abbrev S4x2x128 : Shape := ⟨3, ![4, 2, 128]⟩
abbrev S2x128x12288 : Shape := ⟨3, ![2, 128, 12288]⟩
abbrev S12288 : Shape := ⟨1, ![12288]⟩
abbrev S1x12288 : Shape := ⟨2, ![1, 12288]⟩
abbrev S2x128 : Shape := ⟨2, ![2, 128]⟩
abbrev S4x1x32x12288 : Shape := ⟨4, ![4, 1, 32, 12288]⟩
abbrev S1x32x12288 : Shape := ⟨3, ![1, 32, 12288]⟩
abbrev S8x12288 : Shape := ⟨2, ![8, 12288]⟩
abbrev S32x128 : Shape := ⟨2, ![32, 128]⟩
abbrev S1x1x128 : Shape := ⟨3, ![1, 1, 128]⟩
abbrev S1x128 : Shape := ⟨2, ![1, 128]⟩
abbrev S4x32x12288 : Shape := ⟨3, ![4, 32, 12288]⟩
abbrev S128x12288 : Shape := ⟨2, ![128, 12288]⟩
abbrev S32x12288 : Shape := ⟨2, ![32, 12288]⟩
abbrev S32 : Shape := ⟨1, ![32]⟩
abbrev S32x1 : Shape := ⟨2, ![32, 1]⟩
abbrev S4x8x12288 : Shape := ⟨3, ![4, 8, 12288]⟩
abbrev S128 : Shape := ⟨1, ![128]⟩

abbrev nBuf : Space → Nat
  | .hbm => 11
  | .vmem => 17
  | .smem => 0
  | _ => 0

abbrev bufTy : (tb : Table) → Fin (tcTables nBuf tb) → BufTy
  | .hbm, ⟨0, _⟩ => ⟨S4x2x128x12288, .fp8e5m2⟩
  | .hbm, ⟨1, _⟩ => ⟨S4x2x128, .f32⟩
  | .hbm, ⟨2, _⟩ => ⟨S2x128x12288, .bf16⟩
  | .hbm, ⟨3, _⟩ => ⟨S12288, .f32⟩
  | .hbm, ⟨4, _⟩ => ⟨S2x128x12288, .bf16⟩
  | .hbm, ⟨5, _⟩ => ⟨S1x12288, .f32⟩
  | .hbm, ⟨6, _⟩ => ⟨S2x128x12288, .bf16⟩
  | .hbm, ⟨7, _⟩ => ⟨S1x12288, .f32⟩
  | .hbm, ⟨8, _⟩ => ⟨S1x12288, .f32⟩
  | .hbm, ⟨9, _⟩ => ⟨S2x128x12288, .fp8e5m2⟩
  | .hbm, ⟨10, _⟩ => ⟨S2x128, .f32⟩
  | .local _ .vmem, ⟨0, _⟩ => ⟨S4x1x32x12288, .fp8e5m2⟩
  | .local _ .vmem, ⟨1, _⟩ => ⟨S4x1x32x12288, .fp8e5m2⟩
  | .local _ .vmem, ⟨2, _⟩ => ⟨S4x2x128, .f32⟩
  | .local _ .vmem, ⟨3, _⟩ => ⟨S1x32x12288, .bf16⟩
  | .local _ .vmem, ⟨4, _⟩ => ⟨S1x32x12288, .bf16⟩
  | .local _ .vmem, ⟨5, _⟩ => ⟨S1x12288, .f32⟩
  | .local _ .vmem, ⟨6, _⟩ => ⟨S1x32x12288, .bf16⟩
  | .local _ .vmem, ⟨7, _⟩ => ⟨S1x32x12288, .bf16⟩
  | .local _ .vmem, ⟨8, _⟩ => ⟨S1x32x12288, .bf16⟩
  | .local _ .vmem, ⟨9, _⟩ => ⟨S1x32x12288, .bf16⟩
  | .local _ .vmem, ⟨10, _⟩ => ⟨S1x12288, .f32⟩
  | .local _ .vmem, ⟨11, _⟩ => ⟨S1x12288, .f32⟩
  | .local _ .vmem, ⟨12, _⟩ => ⟨S1x32x12288, .fp8e5m2⟩
  | .local _ .vmem, ⟨13, _⟩ => ⟨S1x32x12288, .fp8e5m2⟩
  | .local _ .vmem, ⟨14, _⟩ => ⟨S2x128, .f32⟩
  | .local _ .vmem, ⟨15, _⟩ => ⟨S8x12288, .f32⟩
  | .local _ .vmem, ⟨16, _⟩ => ⟨S8x12288, .f32⟩
  | _, _ => ⟨S4x2x128x12288, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0 : Index := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v30 : Index := Scalar.indexCast v16
  let c0_10 : Index := 0#32
  ![0, v30.toNat, 0]
def k0_off2 (i : grid0.Coords) : Fin 3 → Nat :=
  let c1 : Index := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v53 : Index := Scalar.indexCast v16
  let c0_19 : Index := 0#32
  ![1, v53.toNat, 0]
def k0_off3 (i : grid0.Coords) : Fin 3 → Nat :=
  let c2 : Index := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v76 : Index := Scalar.indexCast v16
  let c0_30 : Index := 0#32
  ![2, v76.toNat, 0]
def k0_off4 (i : grid0.Coords) : Fin 3 → Nat :=
  let c3 : Index := 3#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v99 : Index := Scalar.indexCast v16
  let c0_40 : Index := 0#32
  ![3, v99.toNat, 0]
def k0_cond2 (i : grid0.Coords) : BitVec 1 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_73 : BitVec 32 := 0#32
  let v169 : BitVec 1 := Scalar.cmpi .eq v26 c0_i32_73
  let v170 : BitVec 32 := Scalar.extui v169
  let c0_i32_74 : BitVec 32 := 0#32
  let v171 : BitVec 1 := Scalar.cmpi .ne v170 c0_i32_74
  v171

def k0_off5 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v316 : Index := Scalar.indexCast v16
  let c0_126 : Index := 0#32
  ![v316.toNat, 0]
def k0_off6 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v291 : Index := Scalar.indexCast v16
  let c0_117 : Index := 0#32
  ![v291.toNat, 0]
def k0_cond3 (i : grid0.Coords) : BitVec 1 :=
  let arg0 : BitVec 32 := BitVec.ofNat 32 (i 0).val
  let c7_i32 : BitVec 32 := 7#32
  let v312 : BitVec 1 := Scalar.cmpi .eq arg0 c7_i32
  let v313 : BitVec 32 := Scalar.extui v312
  let c0_i32_124 : BitVec 32 := 0#32
  let v314 : BitVec 1 := Scalar.cmpi .ne v313 c0_i32_124
  v314

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1x32x12288 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x12288 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x12288 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x12288 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "inv_d" => some ((1 / 12288 : ℝ) : EReal)
  | _ => none
-- ==== ReferenceIdeal.lean ====
abbrev S4x2x128x12288 : Shape := ⟨4, ![4, 2, 128, 12288]⟩
abbrev S4x2x128 : Shape := ⟨3, ![4, 2, 128]⟩
abbrev S2x128x12288 : Shape := ⟨3, ![2, 128, 12288]⟩
abbrev S12288 : Shape := ⟨1, ![12288]⟩
abbrev S1x12288 : Shape := ⟨2, ![1, 12288]⟩
abbrev S2x128 : Shape := ⟨2, ![2, 128]⟩
abbrev S4x2x128x1 : Shape := ⟨4, ![4, 2, 128, 1]⟩
abbrev S2x128x1 : Shape := ⟨3, ![2, 128, 1]⟩
abbrev S1x1x12288 : Shape := ⟨3, ![1, 1, 12288]⟩

abbrev nBuf : Space → Nat
  | .hbm => 10
  | .vmem => 10
  | .smem => 0
  | _ => 0

abbrev bufTy : (tb : Table) → Fin (tcTables nBuf tb) → BufTy
  | .hbm, ⟨0, _⟩ => ⟨S4x2x128x12288, .fp8e5m2⟩
  | .hbm, ⟨1, _⟩ => ⟨S4x2x128, .f32⟩
  | .hbm, ⟨2, _⟩ => ⟨S2x128x12288, .bf16⟩
  | .hbm, ⟨3, _⟩ => ⟨S12288, .f32⟩
  | .hbm, ⟨4, _⟩ => ⟨S2x128x12288, .bf16⟩
  | .hbm, ⟨5, _⟩ => ⟨S2x128x12288, .bf16⟩
  | .hbm, ⟨6, _⟩ => ⟨S1x12288, .f32⟩
  | .hbm, ⟨7, _⟩ => ⟨S1x12288, .f32⟩
  | .hbm, ⟨8, _⟩ => ⟨S2x128x12288, .fp8e5m2⟩
  | .hbm, ⟨9, _⟩ => ⟨S2x128, .f32⟩
  | .local _ .vmem, ⟨0, _⟩ => ⟨S4x2x128x12288, .fp8e5m2⟩
  | .local _ .vmem, ⟨1, _⟩ => ⟨S4x2x128, .f32⟩
  | .local _ .vmem, ⟨2, _⟩ => ⟨S2x128x12288, .bf16⟩
  | .local _ .vmem, ⟨3, _⟩ => ⟨S12288, .f32⟩
  | .local _ .vmem, ⟨4, _⟩ => ⟨S2x128x12288, .bf16⟩
  | .local _ .vmem, ⟨5, _⟩ => ⟨S2x128x12288, .bf16⟩
  | .local _ .vmem, ⟨6, _⟩ => ⟨S1x12288, .f32⟩
  | .local _ .vmem, ⟨7, _⟩ => ⟨S1x12288, .f32⟩
  | .local _ .vmem, ⟨8, _⟩ => ⟨S2x128x12288, .fp8e5m2⟩
  | .local _ .vmem, ⟨9, _⟩ => ⟨S2x128, .f32⟩
  | _, _ => ⟨S4x2x128x12288, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x2x128x12288 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x12288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x12288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x12288 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Fns.lean ====
/-
  What the kernel's body computes at one grid point, as functions of the blocks it loads.
-/
module

public import proofs.«01_k».proof.Proof.Gen.Kernel.Frame
public import proofs.«01_k».proof.Proof.Gen.Kernel.Skeleton
public import Idealize.ShloMosaic.Lib.VecWindow
public import Idealize.ShloMosaic.Lib.WholeRead

@[expose] public section

set_option maxRecDepth 16384

noncomputable section

namespace Cert.Kernel.Body

open Idealize.ShloMosaic Idealize.ShloMosaic.TcCoe
open Idealize.SL Idealize.SL.Sem
open Idealize.ShloMosaic.VecWindow (window put)
open Cert.Kernel.Gen

variable {F : FTy → Type} [FloatOps F]

/-! The offsets at which the body reads a shard's scales and writes a batch row's scales. -/

theorem off1_eq : ∀ i : grid0.Coords, k0_off1 i = ![0, (i 0).val / 4, 0] := by decide +kernel
theorem off2_eq : ∀ i : grid0.Coords, k0_off2 i = ![1, (i 0).val / 4, 0] := by decide +kernel
theorem off3_eq : ∀ i : grid0.Coords, k0_off3 i = ![2, (i 0).val / 4, 0] := by decide +kernel
theorem off4_eq : ∀ i : grid0.Coords, k0_off4 i = ![3, (i 0).val / 4, 0] := by decide +kernel
theorem off5_eq : ∀ i : grid0.Coords, k0_off5 i = ![(i 0).val / 4, 0] := by decide +kernel
theorem off6_eq : ∀ i : grid0.Coords, k0_off6 i = ![(i 0).val / 4, 0] := by decide +kernel

instance (i : grid0.Coords) : ClosedOff (k0_off5 i) := ⟨_, off5_eq i⟩
instance (i : grid0.Coords) : ClosedOff (k0_off6 i) := ⟨_, off6_eq i⟩

/-- The tile's number within its batch row, as the body computes it from the grid coordinate. -/
def tileWord (i : grid0.Coords) : BitVec 32 :=
  let r : BitVec 32 := Scalar.remsi (BitVec.ofNat 32 (i 0).val) 4#32
  Scalar.select (Scalar.andi (Scalar.xori (Scalar.cmpi .slt r 0#32) 0#1) (Scalar.cmpi .ne r 0#32)) (Scalar.addi r 4#32) r

/-- The first roll's amount before it is reduced. -/
def rollWord (i : grid0.Coords) : BitVec 32 :=
  Scalar.addi (Scalar.subi 0#32 (Scalar.muli (tileWord i) 32#32)) 128#32

/-- The lane of each element of a 32 by 128 array. -/
def lane : IVec S32x128 32 := iota .tc S32x128 32 [1] iota_S32x128_d1_w32

/-- The row of each element of a 32 by 128 array. -/
def row : IVec S32x128 32 := iota .tc S32x128 32 [0] iota_S32x128_d0_w32

/-- The selection matrix filled from the first three shards' scales. -/
def selHead (i : grid0.Coords) (x1 : Vec F S4x2x128 .f32) : FVec F S32x128 .f32 :=
  k0_pay9 (tileWord i) lane row
    (k0_pay7 (tileWord i) lane row k0_pay5 (k0_pay6 (window x1 (k0_off1 i) S1x1x128.size (k0_off1_inb i))) (rollWord i) 128#32 0#32
      (window x1 (k0_off2 i) S1x1x128.size (k0_off2_inb i)))
    (k0_pay8 (window x1 (k0_off3 i) S1x1x128.size (k0_off3_inb i)))

/-- The last shard's scales, rolled. -/
def selLast (i : grid0.Coords) (x1 : Vec F S4x2x128 .f32) : FVec F S32x128 .f32 :=
  k0_pay10 (tileWord i) (window x1 (k0_off4 i) S1x1x128.size (k0_off4_inb i))

/-- The summed gradient times the normalised residual. -/
def hBlk (i : grid0.Coords) (x0 : Vec F S4x1x32x12288 .fp8e5m2) (x1 : Vec F S4x2x128 .f32) (x2 : Vec F S1x32x12288 .bf16) : FVec F S32x12288 .f32 :=
  k0_pay14 lane row (selHead i x1) (selLast i x1) x0 x2

/-- The residual's gradient before the incoming residual gradient is added. -/
def drBlk (i : grid0.Coords) (x0 : Vec F S4x1x32x12288 .fp8e5m2) (x1 : Vec F S4x2x128 .f32) (x2 : Vec F S1x32x12288 .bf16) (x3 : Vec F S1x12288 .f32) : FVec F S32x12288 .f32 :=
  k0_pay15 lane row (selHead i x1) (selLast i x1) x0 x2 x3

/-- The gradient block written at a point. -/
def gxBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : FVec F S1x32x12288 .bf16 :=
  k0_pay18 (drBlk i x0 x1 x2 x3) x4

/-- Each row's maximum over the quantiser's range. -/
def ratioBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : FVec F S32x1 .f32 :=
  k0_pay24 (drBlk i x0 x1 x2 x3) x4

/-- The exponent field after the search's first five steps. -/
def fieldBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : IVec S32x1 32 :=
  k0_pay26 (ratioBlk i x0 x1 x2 x3 x4) k0_pay25 128#32

/-- Each row's exponent. -/
def expBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : IVec S32x1 32 :=
  k0_pay27 (ratioBlk i x0 x1 x2 x3 x4) (fieldBlk i x0 x1 x2 x3 x4) 4#32

/-- The codes written at a point. -/
def codesBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : FVec F S1x32x12288 .fp8e5m2 :=
  k0_pay1 (k0_pay28 (k0_pay17 (drBlk i x0 x1 x2 x3) x4) (ratioBlk i x0 x1 x2 x3 x4) (fieldBlk i x0 x1 x2 x3 x4) 4#32)

/-- The condition under which the accumulators are cleared: the first point. -/
abbrev isFirst (i : grid0.Coords) : Prop := Scalar.cmpi .ne (Scalar.extui (Scalar.cmpi .eq (BitVec.ofNat 32 (i 0).val) 0#32)) 0#32 = 1#1

/-- The gain accumulator after a point, from what it held before. -/
def gainStep (i : grid0.Coords) (x0 : Vec F S4x1x32x12288 .fp8e5m2) (x1 : Vec F S4x2x128 .f32) (x2 : Vec F S1x32x12288 .bf16) (a : Vec F S8x12288 .f32) : Vec F S8x12288 .f32 :=
  k0_pay22 (hBlk i x0 x1 x2) (if isFirst i then k0_pay19 else a)

/-- The bias accumulator after a point, from what it held before. -/
def biasStep (i : grid0.Coords) (x0 : Vec F S4x1x32x12288 .fp8e5m2) (x1 : Vec F S4x2x128 .f32) (x2 : Vec F S1x32x12288 .bf16) (x3 : Vec F S1x12288 .f32) (x4 : Vec F S1x32x12288 .bf16) (a : Vec F S8x12288 .f32) : Vec F S8x12288 .f32 :=
  k0_pay23 (drBlk i x0 x1 x2 x3) x4 (if isFirst i then k0_pay20 else a)

/-- The scales' buffer after the row of a batch has been cleared, at the batch's first tile. -/
def scaleClear (i : grid0.Coords) (y : Vec F S2x128 .f32) : Vec F S2x128 .f32 :=
  if k0_cond2 i = 1#1 then put (s := S2x128) y (k0_off5 i) S1x128.size (k0_pay21 : FVec F S1x128 .f32) else y

/-- The scales' buffer after a point, from what it held before. -/
def scaleStep (i : grid0.Coords) (x0 : Vec F S4x1x32x12288 .fp8e5m2) (x1 : Vec F S4x2x128 .f32) (x2 : Vec F S1x32x12288 .bf16) (x3 : Vec F S1x12288 .f32) (x4 : Vec F S1x32x12288 .bf16) (y : Vec F S2x128 .f32) : Vec F S2x128 .f32 :=
  put (s := S2x128) (scaleClear i y) (k0_off6 i) S1x128.size
    (k0_pay2 (tileWord i) lane row (expBlk i x0 x1 x2 x3 x4) (window (scaleClear i y) (k0_off6 i) S1x128.size (k0_off6_inb i)))

section Loads

variable {sp : Space} {s : Shape} {e : EltTy} {mr : Memref sig .tc sp s e}

/-- A load of a window of a whole buffer that holds `X` reads that window of `X`. -/
theorem ld_window (h : mr.IsWhole) (X : s.Idx → Elt F e) {off size : Fin s.rank → ℕ} (inb : ∀ a, off a + size a ≤ s.size a) :
    mr.view.readAt (Elt F) (Rect.unit off size inb).toLoadRect (h.unread X) = window X off size inb :=
  (View.readAt_unit _ _ inb rfl inb).trans (by rw [h.read_unread])

/-- A load of all of a whole buffer that holds `X` reads `X`. -/
theorem ld_full (h : mr.IsWhole) (X : s.Idx → Elt F e) {off : Fin s.rank → ℕ} (inb : ∀ a, off a + s.size a ≤ s.size a) :
    mr.view.readAt (Elt F) (Rect.unit off s.size inb).toLoadRect (h.unread X) = X :=
  (View.readAt_full _ _ inb).trans (h.read_unread X)

/-- A load of the window just stored reads the payload, whatever was under it, the store's offsets stated another way. -/
theorem ld_stored (m0 : Memref sig .tc sp s e) {off off' size : Fin s.rank → ℕ} (h : off = off') (inb : ∀ a, off a + size a ≤ s.size a) (inb' : ∀ a, off' a + size a ≤ s.size a)
    (w : (Rect.unit off size inb).shape.Idx → Elt F e) (L : List (View.Piece (Elt F) s e)) :
    m0.view.readCov (⟨Rect.unit off size inb, w⟩ :: L) (Rect.unit off' size inb').toLoadRect = w := by
  subst h
  refine (View.readAt_unit _ _ inb' rfl inb').trans ?_
  rw [View.read_writes_cons_put _ _ _ _ _ rfl]
  exact VecWindow.window_put_same _ _ _ _ _

end Loads

theorem scaleStep_clear (i : grid0.Coords) (h : k0_cond2 i = 1#1) (x0 : Vec F S4x1x32x12288 .fp8e5m2) (x1 : Vec F S4x2x128 .f32) (x2 : Vec F S1x32x12288 .bf16) (x3 : Vec F S1x12288 .f32) (x4 : Vec F S1x32x12288 .bf16) (y : Vec F S2x128 .f32) :
    scaleStep i x0 x1 x2 x3 x4 y
      = put (s := S2x128) (put (s := S2x128) y (k0_off5 i) S1x128.size (k0_pay21 : FVec F S1x128 .f32)) (k0_off6 i) S1x128.size (k0_pay2 (tileWord i) lane row (expBlk i x0 x1 x2 x3 x4) k0_pay21) := by
  have e : k0_off5 i = k0_off6 i := (off5_eq i).trans (off6_eq i).symm
  have e2 : window (put (s := S2x128) y (k0_off5 i) S1x128.size (k0_pay21 : FVec F S1x128 .f32)) (k0_off6 i) S1x128.size (k0_off6_inb i) = k0_pay21 := by
    rw [e]; exact VecWindow.window_put_same _ _ _ _ _
  unfold scaleStep scaleClear
  rw [if_pos h, e2]

theorem scaleStep_keep (i : grid0.Coords) (h : ¬ k0_cond2 i = 1#1) (x0 : Vec F S4x1x32x12288 .fp8e5m2) (x1 : Vec F S4x2x128 .f32) (x2 : Vec F S1x32x12288 .bf16) (x3 : Vec F S1x12288 .f32) (x4 : Vec F S1x32x12288 .bf16) (y : Vec F S2x128 .f32) :
    scaleStep i x0 x1 x2 x3 x4 y
      = put (s := S2x128) y (k0_off6 i) S1x128.size (k0_pay2 (tileWord i) lane row (expBlk i x0 x1 x2 x3 x4) (window y (k0_off6 i) S1x128.size (k0_off6_inb i))) := by
  unfold scaleStep scaleClear
  rw [if_neg h]

end Cert.Kernel.Body

end
-- ==== Proof.Kernel.RunA.lean ====
/-
  The body's run at the first point, which is also the first tile of a batch row.
-/
module

public import proofs.«01_k».proof.Proof.Kernel.Fns
public import Idealize.ShloMosaic.Lib.WholeRead
public import Idealize.ShloMosaic.Lib.Tactic.Stretches

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.Kernel.Gen

variable {F : FTy → Type} [FloatOps F]

local notation "𝕄" => MT nD τ sig Unit (Elt F) ℕ (UR sig nD τ) ℕ

set_option maxHeartbeats 4000000 in
/-- The body at the first point, which is also the first tile of a batch row: the inputs stay, the two block outputs hold this point's blocks, the accumulators and the scales' buffer take one step. -/
theorem run_A (c : Dev nD) (i : grid0.Coords) (arg1 : Memref sig .tc .vmem S4x1x32x12288 .fp8e5m2) (harg1 : arg1.IsWhole) (arg2 : Memref sig .tc .vmem S4x2x128 .f32) (harg2 : arg2.IsWhole) (arg3 : Memref sig .tc .vmem S1x32x12288 .bf16) (harg3 : arg3.IsWhole) (arg4 : Memref sig .tc .vmem S1x12288 .f32) (harg4 : arg4.IsWhole) (arg5 : Memref sig .tc .vmem S1x32x12288 .bf16) (harg5 : arg5.IsWhole) (arg6 : Memref sig .tc .vmem S1x32x12288 .bf16) (harg6 : arg6.IsWhole) (arg7 : Memref sig .tc .vmem S1x12288 .f32) (harg7 : arg7.IsWhole) (arg8 : Memref sig .tc .vmem S1x12288 .f32) (harg8 : arg8.IsWhole) (arg9 : Memref sig .tc .vmem S1x32x12288 .fp8e5m2) (harg9 : arg9.IsWhole) (arg10 : Memref sig .tc .vmem S2x128 .f32) (harg10 : arg10.IsWhole) (arg11 : Memref sig .tc .vmem S8x12288 .f32) (harg11 : arg11.IsWhole) (arg12 : Memref sig .tc .vmem S8x12288 .f32) (harg12 : arg12.IsWhole)
    (hc0 : isFirst i) (hc1 : k0_cond2 i = 1#1) (hc2 : ¬ k0_cond3 i = 1#1)
    (x0 : Vec F S4x1x32x12288 .fp8e5m2) (x1 : Vec F S4x2x128 .f32) (x2 : Vec F S1x32x12288 .bf16) (x3 : Vec F S1x12288 .f32) (x4 : Vec F S1x32x12288 .bf16)
    (y6 y7 : Vec F S1x12288 .f32) (y9 : Vec F S2x128 .f32) (a0 a1 : Vec F S8x12288 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d) ∗ owns (c : Thread nD τ) arg10 fullShare y9 ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gxBlk i x0 x1 x2 x3 x4) ∗ owns (c : Thread nD τ) arg7 fullShare y6 ∗ owns (c : Thread nD τ) arg8 fullShare y7 ∗ owns (c : Thread nD τ) arg9 fullShare (codesBlk i x0 x1 x2 x3 x4) ∗ owns (c : Thread nD τ) arg10 fullShare (scaleStep i x0 x1 x2 x3 x4 y9) ∗ owns (c : Thread nD τ) arg11 fullShare (gainStep i x0 x1 x2 a0) ∗ owns (c : Thread nD τ) arg12 fullShare (biasStep i x0 x1 x2 x3 x4 a1)) -∗ K ⟨⟩))
      ⊢ wp frame (wpE (defs₀ (F := F)) Variants.none c none) E (cc0_rmsnorm_bwd_quant i arg1 harg1 arg2 harg2 arg3 harg3 arg4 harg4 arg5 harg5 arg6 harg6 arg7 harg7 arg8 harg8 arg9 harg9 arg10 harg10 arg11 harg11 arg12 harg12) K := by
  simp only [cc0_rmsnorm_bwd_quant_eq_skeleton]; unfold cc0_rmsnorm_bwd_quant_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg10.eq_unread hf9; obtain rfl := harg11.eq_unread hfs0; obtain rfl := harg12.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_open_run; rw [View.read_writes_full]; simp only [ld_full harg1 x0, ld_window harg2 x1, ld_full harg3 x2, ld_full harg4 x3, ld_full harg5 x4]; rfl
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    sl_open_run; rw [View.read_writes_full]; simp only [ld_full harg1 x0, ld_window harg2 x1, ld_full harg3 x2, ld_full harg4 x3, ld_full harg5 x4]; rfl
  isplitl [H9]
  · iexists _; isplitr; swap; · iexact H9
    ipureintro
    sl_open_run; rw [View.read_writes_cons_put _ _ _ _ _ rfl]; simp only [ld_full harg1 x0, ld_window harg2 x1, ld_full harg3 x2, ld_full harg4 x3, ld_full harg5 x4, ld_stored arg10 ((off5_eq i).trans (off6_eq i).symm)]; rw [View.read_writes_cons_put _ _ _ _ _ rfl, View.writes_nil, harg10.read_unread, scaleStep_clear i hc1]; rfl
  isplitl [HS0]
  · iexists _; isplitr; swap; · iexact HS0
    ipureintro
    sl_open_run; rw [View.read_writes_full]; simp only [ld_full harg1 x0, ld_window harg2 x1, ld_full harg3 x2, ld_full harg4 x3, ld_full harg5 x4, ld_stored arg11 rfl]; unfold gainStep; rw [if_pos hc0]; rfl
  iexists _; isplitr; swap; · iexact HS1
  ipureintro
  sl_open_run; rw [View.read_writes_full]; simp only [ld_full harg1 x0, ld_window harg2 x1, ld_full harg3 x2, ld_full harg4 x3, ld_full harg5 x4, ld_stored arg12 rfl]; unfold biasStep; rw [if_pos hc0]; rfl

end Cert.Kernel.Body

end
-- ==== Proof.Kernel.RunB.lean ====
/-
  The body's run at a point that is neither the first tile of a batch row nor the last point.
-/
module

public import proofs.«01_k».proof.Proof.Kernel.RunA
public import Idealize.ShloMosaic.Lib.WholeRead
public import Idealize.ShloMosaic.Lib.Tactic.Stretches

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.Kernel.Gen

variable {F : FTy → Type} [FloatOps F]

local notation "𝕄" => MT nD τ sig Unit (Elt F) ℕ (UR sig nD τ) ℕ

set_option maxHeartbeats 4000000 in
/-- The body at a point that is neither the first tile of a batch row nor the last point: the inputs stay, the two block outputs hold this point's blocks, the accumulators and the scales' buffer take one step. -/
theorem run_B (c : Dev nD) (i : grid0.Coords) (arg1 : Memref sig .tc .vmem S4x1x32x12288 .fp8e5m2) (harg1 : arg1.IsWhole) (arg2 : Memref sig .tc .vmem S4x2x128 .f32) (harg2 : arg2.IsWhole) (arg3 : Memref sig .tc .vmem S1x32x12288 .bf16) (harg3 : arg3.IsWhole) (arg4 : Memref sig .tc .vmem S1x12288 .f32) (harg4 : arg4.IsWhole) (arg5 : Memref sig .tc .vmem S1x32x12288 .bf16) (harg5 : arg5.IsWhole) (arg6 : Memref sig .tc .vmem S1x32x12288 .bf16) (harg6 : arg6.IsWhole) (arg7 : Memref sig .tc .vmem S1x12288 .f32) (harg7 : arg7.IsWhole) (arg8 : Memref sig .tc .vmem S1x12288 .f32) (harg8 : arg8.IsWhole) (arg9 : Memref sig .tc .vmem S1x32x12288 .fp8e5m2) (harg9 : arg9.IsWhole) (arg10 : Memref sig .tc .vmem S2x128 .f32) (harg10 : arg10.IsWhole) (arg11 : Memref sig .tc .vmem S8x12288 .f32) (harg11 : arg11.IsWhole) (arg12 : Memref sig .tc .vmem S8x12288 .f32) (harg12 : arg12.IsWhole)
    (hc0 : ¬ isFirst i) (hc1 : ¬ k0_cond2 i = 1#1) (hc2 : ¬ k0_cond3 i = 1#1)
    (x0 : Vec F S4x1x32x12288 .fp8e5m2) (x1 : Vec F S4x2x128 .f32) (x2 : Vec F S1x32x12288 .bf16) (x3 : Vec F S1x12288 .f32) (x4 : Vec F S1x32x12288 .bf16)
    (y6 y7 : Vec F S1x12288 .f32) (y9 : Vec F S2x128 .f32) (a0 a1 : Vec F S8x12288 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d) ∗ owns (c : Thread nD τ) arg10 fullShare y9 ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gxBlk i x0 x1 x2 x3 x4) ∗ owns (c : Thread nD τ) arg7 fullShare y6 ∗ owns (c : Thread nD τ) arg8 fullShare y7 ∗ owns (c : Thread nD τ) arg9 fullShare (codesBlk i x0 x1 x2 x3 x4) ∗ owns (c : Thread nD τ) arg10 fullShare (scaleStep i x0 x1 x2 x3 x4 y9) ∗ owns (c : Thread nD τ) arg11 fullShare (gainStep i x0 x1 x2 a0) ∗ owns (c : Thread nD τ) arg12 fullShare (biasStep i x0 x1 x2 x3 x4 a1)) -∗ K ⟨⟩))
      ⊢ wp frame (wpE (defs₀ (F := F)) Variants.none c none) E (cc0_rmsnorm_bwd_quant i arg1 harg1 arg2 harg2 arg3 harg3 arg4 harg4 arg5 harg5 arg6 harg6 arg7 harg7 arg8 harg8 arg9 harg9 arg10 harg10 arg11 harg11 arg12 harg12) K := by
  simp only [cc0_rmsnorm_bwd_quant_eq_skeleton]; unfold cc0_rmsnorm_bwd_quant_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg10.eq_unread hf9; obtain rfl := harg11.eq_unread hfs0; obtain rfl := harg12.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_open_run; rw [View.read_writes_full]; simp only [ld_full harg1 x0, ld_window harg2 x1, ld_full harg3 x2, ld_full harg4 x3, ld_full harg5 x4]; rfl
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    sl_open_run; rw [View.read_writes_full]; simp only [ld_full harg1 x0, ld_window harg2 x1, ld_full harg3 x2, ld_full harg4 x3, ld_full harg5 x4]; rfl
  isplitl [H9]
  · iexists _; isplitr; swap; · iexact H9
    ipureintro
    sl_open_run; rw [View.read_writes_cons_put _ _ _ _ _ rfl]; simp only [ld_full harg1 x0, ld_window harg2 x1, ld_full harg3 x2, ld_full harg4 x3, ld_full harg5 x4, ld_window harg10 y9]; rw [View.writes_nil, harg10.read_unread, scaleStep_keep i hc1]; rfl
  isplitl [HS0]
  · iexists _; isplitr; swap; · iexact HS0
    ipureintro
    sl_open_run; rw [View.read_writes_full]; simp only [ld_full harg1 x0, ld_window harg2 x1, ld_full harg3 x2, ld_full harg4 x3, ld_full harg5 x4, ld_full harg11 a0]; unfold gainStep; rw [if_neg hc0]; rfl
  iexists _; isplitr; swap; · iexact HS1
  ipureintro
  sl_open_run; rw [View.read_writes_full]; simp only [ld_full harg1 x0, ld_window harg2 x1, ld_full harg3 x2, ld_full harg4 x3, ld_full harg5 x4, ld_full harg12 a1]; unfold biasStep; rw [if_neg hc0]; rfl

end Cert.Kernel.Body

end
-- ==== Proof.Kernel.RunC.lean ====
/-
  The body's run at the first tile of a later batch row.
-/
module

public import proofs.«01_k».proof.Proof.Kernel.RunB
public import Idealize.ShloMosaic.Lib.WholeRead
public import Idealize.ShloMosaic.Lib.Tactic.Stretches

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.Kernel.Gen

variable {F : FTy → Type} [FloatOps F]

local notation "𝕄" => MT nD τ sig Unit (Elt F) ℕ (UR sig nD τ) ℕ

set_option maxHeartbeats 4000000 in
/-- The body at the first tile of a later batch row: the inputs stay, the two block outputs hold this point's blocks, the accumulators and the scales' buffer take one step. -/
theorem run_C (c : Dev nD) (i : grid0.Coords) (arg1 : Memref sig .tc .vmem S4x1x32x12288 .fp8e5m2) (harg1 : arg1.IsWhole) (arg2 : Memref sig .tc .vmem S4x2x128 .f32) (harg2 : arg2.IsWhole) (arg3 : Memref sig .tc .vmem S1x32x12288 .bf16) (harg3 : arg3.IsWhole) (arg4 : Memref sig .tc .vmem S1x12288 .f32) (harg4 : arg4.IsWhole) (arg5 : Memref sig .tc .vmem S1x32x12288 .bf16) (harg5 : arg5.IsWhole) (arg6 : Memref sig .tc .vmem S1x32x12288 .bf16) (harg6 : arg6.IsWhole) (arg7 : Memref sig .tc .vmem S1x12288 .f32) (harg7 : arg7.IsWhole) (arg8 : Memref sig .tc .vmem S1x12288 .f32) (harg8 : arg8.IsWhole) (arg9 : Memref sig .tc .vmem S1x32x12288 .fp8e5m2) (harg9 : arg9.IsWhole) (arg10 : Memref sig .tc .vmem S2x128 .f32) (harg10 : arg10.IsWhole) (arg11 : Memref sig .tc .vmem S8x12288 .f32) (harg11 : arg11.IsWhole) (arg12 : Memref sig .tc .vmem S8x12288 .f32) (harg12 : arg12.IsWhole)
    (hc0 : ¬ isFirst i) (hc1 : k0_cond2 i = 1#1) (hc2 : ¬ k0_cond3 i = 1#1)
    (x0 : Vec F S4x1x32x12288 .fp8e5m2) (x1 : Vec F S4x2x128 .f32) (x2 : Vec F S1x32x12288 .bf16) (x3 : Vec F S1x12288 .f32) (x4 : Vec F S1x32x12288 .bf16)
    (y6 y7 : Vec F S1x12288 .f32) (y9 : Vec F S2x128 .f32) (a0 a1 : Vec F S8x12288 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d) ∗ owns (c : Thread nD τ) arg10 fullShare y9 ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gxBlk i x0 x1 x2 x3 x4) ∗ owns (c : Thread nD τ) arg7 fullShare y6 ∗ owns (c : Thread nD τ) arg8 fullShare y7 ∗ owns (c : Thread nD τ) arg9 fullShare (codesBlk i x0 x1 x2 x3 x4) ∗ owns (c : Thread nD τ) arg10 fullShare (scaleStep i x0 x1 x2 x3 x4 y9) ∗ owns (c : Thread nD τ) arg11 fullShare (gainStep i x0 x1 x2 a0) ∗ owns (c : Thread nD τ) arg12 fullShare (biasStep i x0 x1 x2 x3 x4 a1)) -∗ K ⟨⟩))
      ⊢ wp frame (wpE (defs₀ (F := F)) Variants.none c none) E (cc0_rmsnorm_bwd_quant i arg1 harg1 arg2 harg2 arg3 harg3 arg4 harg4 arg5 harg5 arg6 harg6 arg7 harg7 arg8 harg8 arg9 harg9 arg10 harg10 arg11 harg11 arg12 harg12) K := by
  simp only [cc0_rmsnorm_bwd_quant_eq_skeleton]; unfold cc0_rmsnorm_bwd_quant_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg10.eq_unread hf9; obtain rfl := harg11.eq_unread hfs0; obtain rfl := harg12.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_open_run; rw [View.read_writes_full]; simp only [ld_full harg1 x0, ld_window harg2 x1, ld_full harg3 x2, ld_full harg4 x3, ld_full harg5 x4]; rfl
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    sl_open_run; rw [View.read_writes_full]; simp only [ld_full harg1 x0, ld_window harg2 x1, ld_full harg3 x2, ld_full harg4 x3, ld_full harg5 x4]; rfl
  isplitl [H9]
  · iexists _; isplitr; swap; · iexact H9
    ipureintro
    sl_open_run; rw [View.read_writes_cons_put _ _ _ _ _ rfl]; simp only [ld_full harg1 x0, ld_window harg2 x1, ld_full harg3 x2, ld_full harg4 x3, ld_full harg5 x4, ld_stored arg10 ((off5_eq i).trans (off6_eq i).symm)]; rw [View.read_writes_cons_put _ _ _ _ _ rfl, View.writes_nil, harg10.read_unread, scaleStep_clear i hc1]; rfl
  isplitl [HS0]
  · iexists _; isplitr; swap; · iexact HS0
    ipureintro
    sl_open_run; rw [View.read_writes_full]; simp only [ld_full harg1 x0, ld_window harg2 x1, ld_full harg3 x2, ld_full harg4 x3, ld_full harg5 x4, ld_full harg11 a0]; unfold gainStep; rw [if_neg hc0]; rfl
  iexists _; isplitr; swap; · iexact HS1
  ipureintro
  sl_open_run; rw [View.read_writes_full]; simp only [ld_full harg1 x0, ld_window harg2 x1, ld_full harg3 x2, ld_full harg4 x3, ld_full harg5 x4, ld_full harg12 a1]; unfold biasStep; rw [if_neg hc0]; rfl

end Cert.Kernel.Body

end
-- ==== Proof.Kernel.RunD.lean ====
/-
  The body's run at the last point.
-/
module

public import proofs.«01_k».proof.Proof.Kernel.RunC
public import Idealize.ShloMosaic.Lib.WholeRead
public import Idealize.ShloMosaic.Lib.Tactic.Stretches

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.Kernel.Gen

variable {F : FTy → Type} [FloatOps F]

local notation "𝕄" => MT nD τ sig Unit (Elt F) ℕ (UR sig nD τ) ℕ

set_option maxHeartbeats 4000000 in
/-- The body at the last point: the inputs stay, the two block outputs hold this point's blocks, the accumulators and the scales' buffer take one step. -/
theorem run_D (c : Dev nD) (i : grid0.Coords) (arg1 : Memref sig .tc .vmem S4x1x32x12288 .fp8e5m2) (harg1 : arg1.IsWhole) (arg2 : Memref sig .tc .vmem S4x2x128 .f32) (harg2 : arg2.IsWhole) (arg3 : Memref sig .tc .vmem S1x32x12288 .bf16) (harg3 : arg3.IsWhole) (arg4 : Memref sig .tc .vmem S1x12288 .f32) (harg4 : arg4.IsWhole) (arg5 : Memref sig .tc .vmem S1x32x12288 .bf16) (harg5 : arg5.IsWhole) (arg6 : Memref sig .tc .vmem S1x32x12288 .bf16) (harg6 : arg6.IsWhole) (arg7 : Memref sig .tc .vmem S1x12288 .f32) (harg7 : arg7.IsWhole) (arg8 : Memref sig .tc .vmem S1x12288 .f32) (harg8 : arg8.IsWhole) (arg9 : Memref sig .tc .vmem S1x32x12288 .fp8e5m2) (harg9 : arg9.IsWhole) (arg10 : Memref sig .tc .vmem S2x128 .f32) (harg10 : arg10.IsWhole) (arg11 : Memref sig .tc .vmem S8x12288 .f32) (harg11 : arg11.IsWhole) (arg12 : Memref sig .tc .vmem S8x12288 .f32) (harg12 : arg12.IsWhole)
    (hc0 : ¬ isFirst i) (hc1 : ¬ k0_cond2 i = 1#1) (hc2 : k0_cond3 i = 1#1)
    (x0 : Vec F S4x1x32x12288 .fp8e5m2) (x1 : Vec F S4x2x128 .f32) (x2 : Vec F S1x32x12288 .bf16) (x3 : Vec F S1x12288 .f32) (x4 : Vec F S1x32x12288 .bf16)
    (y6 y7 : Vec F S1x12288 .f32) (y9 : Vec F S2x128 .f32) (a0 a1 : Vec F S8x12288 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d) ∗ owns (c : Thread nD τ) arg10 fullShare y9 ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gxBlk i x0 x1 x2 x3 x4) ∗ owns (c : Thread nD τ) arg7 fullShare (k0_pay3 (gainStep i x0 x1 x2 a0)) ∗ owns (c : Thread nD τ) arg8 fullShare (k0_pay4 (biasStep i x0 x1 x2 x3 x4 a1)) ∗ owns (c : Thread nD τ) arg9 fullShare (codesBlk i x0 x1 x2 x3 x4) ∗ owns (c : Thread nD τ) arg10 fullShare (scaleStep i x0 x1 x2 x3 x4 y9) ∗ owns (c : Thread nD τ) arg11 fullShare (gainStep i x0 x1 x2 a0) ∗ owns (c : Thread nD τ) arg12 fullShare (biasStep i x0 x1 x2 x3 x4 a1)) -∗ K ⟨⟩))
      ⊢ wp frame (wpE (defs₀ (F := F)) Variants.none c none) E (cc0_rmsnorm_bwd_quant i arg1 harg1 arg2 harg2 arg3 harg3 arg4 harg4 arg5 harg5 arg6 harg6 arg7 harg7 arg8 harg8 arg9 harg9 arg10 harg10 arg11 harg11 arg12 harg12) K := by
  simp only [cc0_rmsnorm_bwd_quant_eq_skeleton]; unfold cc0_rmsnorm_bwd_quant_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg10.eq_unread hf9; obtain rfl := harg11.eq_unread hfs0; obtain rfl := harg12.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_open_run; rw [View.read_writes_full]; simp only [ld_full harg1 x0, ld_window harg2 x1, ld_full harg3 x2, ld_full harg4 x3, ld_full harg5 x4]; rfl
  isplitl [H6]
  · iexists _; isplitr; swap; · iexact H6
    ipureintro
    sl_open_run; rw [View.read_writes_full]; simp only [ld_full harg1 x0, ld_window harg2 x1, ld_full harg3 x2, ld_full harg4 x3, ld_full harg5 x4, ld_stored arg11 rfl, ld_full harg11 a0]; unfold gainStep; rw [if_neg hc0]; rfl
  isplitl [H7]
  · iexists _; isplitr; swap; · iexact H7
    ipureintro
    sl_open_run; rw [View.read_writes_full]; simp only [ld_full harg1 x0, ld_window harg2 x1, ld_full harg3 x2, ld_full harg4 x3, ld_full harg5 x4, ld_stored arg12 rfl, ld_full harg12 a1]; unfold biasStep; rw [if_neg hc0]; rfl
  isplitl [H8]
  · iexists _; isplitr; swap; · iexact H8
    ipureintro
    sl_open_run; rw [View.read_writes_full]; simp only [ld_full harg1 x0, ld_window harg2 x1, ld_full harg3 x2, ld_full harg4 x3, ld_full harg5 x4]; rfl
  isplitl [H9]
  · iexists _; isplitr; swap; · iexact H9
    ipureintro
    sl_open_run; rw [View.read_writes_cons_put _ _ _ _ _ rfl]; simp only [ld_full harg1 x0, ld_window harg2 x1, ld_full harg3 x2, ld_full harg4 x3, ld_full harg5 x4, ld_window harg10 y9]; rw [View.writes_nil, harg10.read_unread, scaleStep_keep i hc1]; rfl
  isplitl [HS0]
  · iexists _; isplitr; swap; · iexact HS0
    ipureintro
    sl_open_run; rw [View.read_writes_full]; simp only [ld_full harg1 x0, ld_window harg2 x1, ld_full harg3 x2, ld_full harg4 x3, ld_full harg5 x4, ld_full harg11 a0]; unfold gainStep; rw [if_neg hc0]; rfl
  iexists _; isplitr; swap; · iexact HS1
  ipureintro
  sl_open_run; rw [View.read_writes_full]; simp only [ld_full harg1 x0, ld_window harg2 x1, ld_full harg3 x2, ld_full harg4 x3, ld_full harg5 x4, ld_full harg12 a1]; unfold biasStep; rw [if_neg hc0]; rfl

end Cert.Kernel.Body

end
-- ==== Proof.Kernel.Run.lean ====
/-
  The pipeline's proof data, its body obligation, the launch and the frame of `Cert.Kernel`'s program: every run ends
  with the argument arrays unchanged and each result array at what the body left there.
-/
module

public import proofs.«01_k».proof.Proof.Kernel.RunD
public import proofs.«01_k».proof.Proof.Gen.Kernel.Frame
public import Idealize.ShloMosaic.Lib.Pipeline.ArrRel

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points take which branch -/

theorem first_iff : ∀ t : Fin cfg0.N, isFirst (grid0.coords t) ↔ t.val = 0 :=
  (by decide +kernel : ∀ t : Fin grid0.N, isFirst (grid0.coords t) ↔ t.val = 0)
theorem clear_iff : ∀ t : Fin cfg0.N, k0_cond2 (grid0.coords t) = 1#1 ↔ t.val % 4 = 0 :=
  (by decide +kernel : ∀ t : Fin grid0.N, k0_cond2 (grid0.coords t) = 1#1 ↔ t.val % 4 = 0)
theorem last_iff : ∀ t : Fin cfg0.N, k0_cond3 (grid0.coords t) = 1#1 ↔ t.val = 7 :=
  (by decide +kernel : ∀ t : Fin grid0.N, k0_cond3 (grid0.coords t) = 1#1 ↔ t.val = 7)

/-! ## The staging buffers and the accumulators -/

/-- Window 0's staging buffer at a point, and that it is whole. -/
abbrev ms0 (t : Fin cfg0.N) : Memref sig .tc .vmem S4x1x32x12288 .fp8e5m2 := win0_0.stage (cfg0.slots t 0)
abbrev hs0 (t : Fin cfg0.N) : (ms0 t).IsWhole := hstage0_0 ((cfg0.slots t 0).cast nbuf0_0)
/-- Window 1's staging buffer at a point, and that it is whole. -/
abbrev ms1 (t : Fin cfg0.N) : Memref sig .tc .vmem S4x2x128 .f32 := win0_1.stage (cfg0.slots t 1)
abbrev hs1 (t : Fin cfg0.N) : (ms1 t).IsWhole := hstage0_1 ((cfg0.slots t 1).cast nbuf0_1)
/-- Window 2's staging buffer at a point, and that it is whole. -/
abbrev ms2 (t : Fin cfg0.N) : Memref sig .tc .vmem S1x32x12288 .bf16 := win0_2.stage (cfg0.slots t 2)
abbrev hs2 (t : Fin cfg0.N) : (ms2 t).IsWhole := hstage0_2 ((cfg0.slots t 2).cast nbuf0_2)
/-- Window 3's staging buffer at a point, and that it is whole. -/
abbrev ms3 (t : Fin cfg0.N) : Memref sig .tc .vmem S1x12288 .f32 := win0_3.stage (cfg0.slots t 3)
abbrev hs3 (t : Fin cfg0.N) : (ms3 t).IsWhole := hstage0_3 ((cfg0.slots t 3).cast nbuf0_3)
/-- Window 4's staging buffer at a point, and that it is whole. -/
abbrev ms4 (t : Fin cfg0.N) : Memref sig .tc .vmem S1x32x12288 .bf16 := win0_4.stage (cfg0.slots t 4)
abbrev hs4 (t : Fin cfg0.N) : (ms4 t).IsWhole := hstage0_4 ((cfg0.slots t 4).cast nbuf0_4)
/-- Window 5's staging buffer at a point, and that it is whole. -/
abbrev ms5 (t : Fin cfg0.N) : Memref sig .tc .vmem S1x32x12288 .bf16 := win0_5.stage (cfg0.slots t 5)
abbrev hs5 (t : Fin cfg0.N) : (ms5 t).IsWhole := hstage0_5 ((cfg0.slots t 5).cast nbuf0_5)
/-- Window 6's staging buffer at a point, and that it is whole. -/
abbrev ms6 (t : Fin cfg0.N) : Memref sig .tc .vmem S1x12288 .f32 := win0_6.stage (cfg0.slots t 6)
abbrev hs6 (t : Fin cfg0.N) : (ms6 t).IsWhole := hstage0_6 ((cfg0.slots t 6).cast nbuf0_6)
/-- Window 7's staging buffer at a point, and that it is whole. -/
abbrev ms7 (t : Fin cfg0.N) : Memref sig .tc .vmem S1x12288 .f32 := win0_7.stage (cfg0.slots t 7)
abbrev hs7 (t : Fin cfg0.N) : (ms7 t).IsWhole := hstage0_7 ((cfg0.slots t 7).cast nbuf0_7)
/-- Window 8's staging buffer at a point, and that it is whole. -/
abbrev ms8 (t : Fin cfg0.N) : Memref sig .tc .vmem S1x32x12288 .fp8e5m2 := win0_8.stage (cfg0.slots t 8)
abbrev hs8 (t : Fin cfg0.N) : (ms8 t).IsWhole := hstage0_8 ((cfg0.slots t 8).cast nbuf0_8)
/-- Window 9's staging buffer at a point, and that it is whole. -/
abbrev ms9 (t : Fin cfg0.N) : Memref sig .tc .vmem S2x128 .f32 := win0_9.stage (cfg0.slots t 9)
abbrev hs9 (t : Fin cfg0.N) : (ms9 t).IsWhole := hstage0_9 ((cfg0.slots t 9).cast nbuf0_9)
/-- The gain accumulator's buffer. -/
abbrev scG : Memref sig .tc .vmem S8x12288 .f32 := Memref.whole cc0_scratch0
/-- The bias accumulator's buffer. -/
abbrev scB : Memref sig .tc .vmem S8x12288 .f32 := Memref.whole cc0_scratch1

/-- What the launch gives and takes back: both accumulators' buffers at anything, and the generator register. -/
theorem PhiA_eq (c : Dev nD) :
    (Pipeline.ΦA spec0 c : sProp 𝕄)
      = iprop(iprop((∃ d, owns (c : Thread nD τ) scG fullShare d) ∗ (∃ d, owns (c : Thread nD τ) scB fullShare d)) ∗ (∃ r, prngReg c r)) := by
  unfold Pipeline.ΦA; rw [scopedRest0_eq]; simp only [scG, scB, owns_whole]; try rfl

/-- The two accumulators after point `n`. -/
def accs (c : Dev nD) : (n : ℕ) → n < cfg0.N → Vec F S8x12288 .f32 × Vec F S8x12288 .f32
  | 0, h => (gainStep (grid0.coords ⟨0, h⟩) (iblk m c 0 ⟨0, h⟩) (iblk m c 1 ⟨0, h⟩) (iblk m c 2 ⟨0, h⟩) k0_pay19, biasStep (grid0.coords ⟨0, h⟩) (iblk m c 0 ⟨0, h⟩) (iblk m c 1 ⟨0, h⟩) (iblk m c 2 ⟨0, h⟩) (iblk m c 3 ⟨0, h⟩) (iblk m c 4 ⟨0, h⟩) k0_pay20)
  | n + 1, h => (gainStep (grid0.coords ⟨n + 1, h⟩) (iblk m c 0 ⟨n + 1, h⟩) (iblk m c 1 ⟨n + 1, h⟩) (iblk m c 2 ⟨n + 1, h⟩) (accs c n (Nat.lt_of_succ_lt h)).1,
      biasStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (accs c n (Nat.lt_of_succ_lt h)).2)

/-- The invariant before point `n`: the accumulators at what the point before left, at anything before the first. -/
def Inv (c : Dev nD) : (n : ℕ) → n ≤ cfg0.N → sProp 𝕄
  | 0, _ => Pipeline.ΦA spec0 c
  | n + 1, hn => iprop(iprop(owns (c : Thread nD τ) scG fullShare (accs m c n hn).1 ∗ owns (c : Thread nD τ) scB fullShare (accs m c n hn).2) ∗ (∃ r, prngReg c r))

theorem Inv_succ (c : Dev nD) (n : ℕ) (hn : n + 1 ≤ cfg0.N) :
    Inv m c (n + 1) hn = iprop(iprop(owns (c : Thread nD τ) scG fullShare (accs m c n hn).1 ∗ owns (c : Thread nD τ) scB fullShare (accs m c n hn).2) ∗ (∃ r, prngReg c r)) := rfl

/-- Before any point, the accumulators hold values from which this point's step makes this point's contents. -/
theorem Inv_open (c : Dev nD) (t : Fin cfg0.N) (h : t.val ≤ cfg0.N) :
    Inv m c t.val h ⊢ iprop(∃ a0 a1, ⌜gainStep (grid0.coords t) (iblk m c 0 t) (iblk m c 1 t) (iblk m c 2 t) a0 = (accs m c t.val t.isLt).1
        ∧ biasStep (grid0.coords t) (iblk m c 0 t) (iblk m c 1 t) (iblk m c 2 t) (iblk m c 3 t) (iblk m c 4 t) a1 = (accs m c t.val t.isLt).2⌝
      ∗ owns (c : Thread nD τ) scG fullShare a0 ∗ owns (c : Thread nD τ) scB fullShare a1 ∗ (∃ r, prngReg c r)) := by
  obtain ⟨n, hn⟩ := t
  cases n with
  | zero =>
    show Pipeline.ΦA spec0 c ⊢ _
    rw [PhiA_eq]
    iintro ⟨⟨⟨%a0, HS0⟩, ⟨%a1, HS1⟩⟩, Hg⟩
    iexists a0, a1
    isplitr
    · ipureintro
      have hf : isFirst (grid0.coords ⟨0, hn⟩) := (first_iff ⟨0, hn⟩).mpr rfl
      constructor
      · show _ = gainStep _ _ _ _ _
        unfold gainStep; rw [if_pos hf, if_pos hf]
      · show _ = biasStep _ _ _ _ _ _ _
        unfold biasStep; rw [if_pos hf, if_pos hf]
    isplitl [HS0]; · iexact HS0
    isplitl [HS1]; · iexact HS1
    iexact Hg
  | succ n =>
    unfold Inv
    iintro ⟨⟨HS0, HS1⟩, Hg⟩
    iexists _, _
    isplitr; swap
    · isplitl [HS0]; · iexact HS0
      isplitl [HS1]; · iexact HS1
      iexact Hg
    ipureintro
    exact ⟨rfl, rfl⟩

/-! ## The proof data -/

/-- The proof data of the pipeline: an input's buffer stays; the two block outputs hold the point's blocks; the two
    vector outputs are written at the last point; the scales' buffer takes the point's step from what it held. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => X = gxBlk (grid0.coords t) (iblk m c 0 t) (iblk m c 1 t) (iblk m c 2 t) (iblk m c 3 t) (iblk m c 4 t)
    | ⟨6, _⟩ => fun _ X => t.val = 7 → X = k0_pay3 (accs m c t.val t.isLt).1
    | ⟨7, _⟩ => fun _ X => t.val = 7 → X = k0_pay4 (accs m c t.val t.isLt).2
    | ⟨8, _⟩ => fun _ X => X = codesBlk (grid0.coords t) (iblk m c 0 t) (iblk m c 1 t) (iblk m c 2 t) (iblk m c 3 t) (iblk m c 4 t)
    | ⟨9, _⟩ => fun Y X => X = scaleStep (grid0.coords t) (iblk m c 0 t) (iblk m c 1 t) (iblk m c 2 t) (iblk m c 3 t) (iblk m c 4 t) Y
  Φ t := Inv m c t.val (Nat.le_of_lt_succ t.isLt)
  q _ := fullShare
  owed _ := 0

theorem A_eq (c : Dev nD) (w : Fin cfg0.W) : (rdat m c).A w = V m c (Pipeline.arrRef spec0 w) := by
  dsimp only [rdat]

theorem Phi_eq (c : Dev nD) (t : Fin (cfg0.N + 1)) : (rdat m c).Φ t = Inv m c t.val (Nat.le_of_lt_succ t.isLt) := by
  dsimp only [rdat]

/-! An input's buffer holds its block at every point. -/

theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold Pipeline.RDat.fetched Pipeline.RDat.blockOf iblk; rw [A_eq]; try rfl)
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold Pipeline.RDat.fetched Pipeline.RDat.blockOf iblk; rw [A_eq]; try rfl)
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold Pipeline.RDat.fetched Pipeline.RDat.blockOf iblk; rw [A_eq]; try rfl)
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold Pipeline.RDat.fetched Pipeline.RDat.blockOf iblk; rw [A_eq]; try rfl)
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold Pipeline.RDat.fetched Pipeline.RDat.blockOf iblk; rw [A_eq]; try rfl)

/-! ## The body obligation -/

set_option maxHeartbeats 4000000 in
/-- The body at any point. -/
theorem sound_body (c : Dev nD) (t : Fin cfg0.N) (y5 : Vec F S1x32x12288 .bf16) (y6 y7 : Vec F S1x12288 .f32) (y8 : Vec F S1x32x12288 .fp8e5m2) (y9 : Vec F S2x128 .f32) :
    iprop((rdat m c).Φ t.castSucc ∗ (rdat m c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare y5 ∗ owns (c : Thread nD τ) (ms6 t) fullShare y6 ∗ owns (c : Thread nD τ) (ms7 t) fullShare y7 ∗ owns (c : Thread nD τ) (ms8 t) fullShare y8 ∗ owns (c : Thread nD τ) (ms9 t) fullShare y9)
      ⊢ wp frame (wpE (defs₀ (F := F)) Variants.none c none) Set.univ (bodyAt0 t) (fun _ =>
        iprop((rdat m c).Φ t.succ ∗ (rdat m c).owesAt () t.succ ∗ (∃ X, ⌜(rdat m c).after 0 t (iblk m c 0 t) X⌝ ∗ owns (c : Thread nD τ) (ms0 t) fullShare X) ∗ (∃ X, ⌜(rdat m c).after 1 t (iblk m c 1 t) X⌝ ∗ owns (c : Thread nD τ) (ms1 t) fullShare X) ∗ (∃ X, ⌜(rdat m c).after 2 t (iblk m c 2 t) X⌝ ∗ owns (c : Thread nD τ) (ms2 t) fullShare X) ∗ (∃ X, ⌜(rdat m c).after 3 t (iblk m c 3 t) X⌝ ∗ owns (c : Thread nD τ) (ms3 t) fullShare X) ∗ (∃ X, ⌜(rdat m c).after 4 t (iblk m c 4 t) X⌝ ∗ owns (c : Thread nD τ) (ms4 t) fullShare X) ∗ (∃ X, ⌜(rdat m c).after 5 t y5 X⌝ ∗ owns (c : Thread nD τ) (ms5 t) fullShare X) ∗ (∃ X, ⌜(rdat m c).after 6 t y6 X⌝ ∗ owns (c : Thread nD τ) (ms6 t) fullShare X) ∗ (∃ X, ⌜(rdat m c).after 7 t y7 X⌝ ∗ owns (c : Thread nD τ) (ms7 t) fullShare X) ∗ (∃ X, ⌜(rdat m c).after 8 t y8 X⌝ ∗ owns (c : Thread nD τ) (ms8 t) fullShare X) ∗ (∃ X, ⌜(rdat m c).after 9 t y9 X⌝ ∗ owns (c : Thread nD τ) (ms9 t) fullShare X))) := by
  unfold bodyAt0
  rw [show (rdat m c).owesAt () t.succ = (rdat m c).owesAt () t.castSucc from rfl, Phi_eq, Phi_eq]
  rw [show Inv m c t.succ.val (Nat.le_of_lt_succ t.succ.isLt) = Inv m c (t.val + 1) t.isLt from rfl, Inv_succ]
  refine (show _ ⊢ _ from sep_mono (Inv_open m c t (Nat.le_of_lt t.isLt)) .rfl).trans ?_
  iintro ⟨⟨%a0, %a1, %hacc, HS0, HS1, Hg⟩, Ho, H0, H1, H2, H3, H4, H5, H6, H7, H8, H9⟩
  rw [← hacc.1, ← hacc.2]
  by_cases h7 : t.val = 7
  · have hc0 : ¬ isFirst (grid0.coords t) := fun h => by have := (first_iff t).mp h; omega
    have hc1 : ¬ k0_cond2 (grid0.coords t) = 1#1 := fun h => by have := (clear_iff t).mp h; omega
    have hc2 : k0_cond3 (grid0.coords t) = 1#1 := (last_iff t).mpr h7
    iapply (run_D c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) y6 y7 y9 a0 a1 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; intro _; exact congrArg k0_pay3 hacc.1
    isplitl [H7]
    · iexists _; isplitr; swap; · iexact H7
      ipureintro; intro _; exact congrArg k0_pay4 hacc.2
    isplitl [H8]
    · iexists _; isplitr; swap; · iexact H8
      ipureintro; rfl
    iexists _; isplitr; swap; · iexact H9
    ipureintro; rfl
  · have hc2 : ¬ k0_cond3 (grid0.coords t) = 1#1 := fun h => h7 ((last_iff t).mp h)
    by_cases h4 : t.val % 4 = 0
    · have hc1 : k0_cond2 (grid0.coords t) = 1#1 := (clear_iff t).mpr h4
      by_cases h0 : t.val = 0
      · have hc0 : isFirst (grid0.coords t) := (first_iff t).mpr h0
        iapply (run_A c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) y6 y7 y9 a0 a1 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [H8]; · iexists _; iexact H8
        isplitl [H9]; · iexact H9
        isplitl [HS0]; · iexact HS0
        isplitl [HS1]; · iexact HS1
        iintro ⟨H0, H1, H2, H3, H4, H5, H6, H7, H8, H9, HS0, HS1⟩
        isplitl [HS0 HS1 Hg]
        · isplitl [HS0 HS1]
          · isplitl [HS0]
            · iexact HS0
            iexact HS1
          iexact Hg
        isplitl [Ho]; · iexact Ho
        isplitl [H0]
        · iexists _; isplitr; swap; · iexact H0
          ipureintro; rfl
        isplitl [H1]
        · iexists _; isplitr; swap; · iexact H1
          ipureintro; rfl
        isplitl [H2]
        · iexists _; isplitr; swap; · iexact H2
          ipureintro; rfl
        isplitl [H3]
        · iexists _; isplitr; swap; · iexact H3
          ipureintro; rfl
        isplitl [H4]
        · iexists _; isplitr; swap; · iexact H4
          ipureintro; rfl
        isplitl [H5]
        · iexists _; isplitr; swap; · iexact H5
          ipureintro; rfl
        isplitl [H6]
        · iexists _; isplitr; swap; · iexact H6
          ipureintro; intro h; exact absurd h h7
        isplitl [H7]
        · iexists _; isplitr; swap; · iexact H7
          ipureintro; intro h; exact absurd h h7
        isplitl [H8]
        · iexists _; isplitr; swap; · iexact H8
          ipureintro; rfl
        iexists _; isplitr; swap; · iexact H9
        ipureintro; rfl
      · have hc0 : ¬ isFirst (grid0.coords t) := fun h => h0 ((first_iff t).mp h)
        iapply (run_C c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) y6 y7 y9 a0 a1 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [H8]; · iexists _; iexact H8
        isplitl [H9]; · iexact H9
        isplitl [HS0]; · iexact HS0
        isplitl [HS1]; · iexact HS1
        iintro ⟨H0, H1, H2, H3, H4, H5, H6, H7, H8, H9, HS0, HS1⟩
        isplitl [HS0 HS1 Hg]
        · isplitl [HS0 HS1]
          · isplitl [HS0]
            · iexact HS0
            iexact HS1
          iexact Hg
        isplitl [Ho]; · iexact Ho
        isplitl [H0]
        · iexists _; isplitr; swap; · iexact H0
          ipureintro; rfl
        isplitl [H1]
        · iexists _; isplitr; swap; · iexact H1
          ipureintro; rfl
        isplitl [H2]
        · iexists _; isplitr; swap; · iexact H2
          ipureintro; rfl
        isplitl [H3]
        · iexists _; isplitr; swap; · iexact H3
          ipureintro; rfl
        isplitl [H4]
        · iexists _; isplitr; swap; · iexact H4
          ipureintro; rfl
        isplitl [H5]
        · iexists _; isplitr; swap; · iexact H5
          ipureintro; rfl
        isplitl [H6]
        · iexists _; isplitr; swap; · iexact H6
          ipureintro; intro h; exact absurd h h7
        isplitl [H7]
        · iexists _; isplitr; swap; · iexact H7
          ipureintro; intro h; exact absurd h h7
        isplitl [H8]
        · iexists _; isplitr; swap; · iexact H8
          ipureintro; rfl
        iexists _; isplitr; swap; · iexact H9
        ipureintro; rfl
    · have hc1 : ¬ k0_cond2 (grid0.coords t) = 1#1 := fun h => h4 ((clear_iff t).mp h)
      have hc0 : ¬ isFirst (grid0.coords t) := fun h => h4 (by have := (first_iff t).mp h; omega)
      iapply (run_B c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) y6 y7 y9 a0 a1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; intro h; exact absurd h h7
      isplitl [H7]
      · iexists _; isplitr; swap; · iexact H7
        ipureintro; intro h; exact absurd h h7
      isplitl [H8]
      · iexists _; isplitr; swap; · iexact H8
        ipureintro; rfl
      iexists _; isplitr; swap; · iexact H9
      ipureintro; rfl

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdat m c).BodyObligation (defs₀ (F := F)) Variants.none () Set.univ := fun t Y hY => by
  rw [bigSep_W0, bigSep_W0, defs₀_row, finds_0 m c t _ (hY 0), finds_1 m c t _ (hY 1), finds_2 m c t _ (hY 2), finds_3 m c t _ (hY 3), finds_4 m c t _ (hY 4)]
  exact triple_restated (sound_body m c t (Y 5) (Y 6) (Y 7) (Y 8) (Y 9)) rfl .rfl fun _ => .rfl

theorem hin (c : Dev nD) : Pipeline.ΦA spec0 c ⊢ (rdat m c).Φ 0 := by
  rw [Phi_eq]
  exact Idealize.SL.BI.Entails.refl _

theorem Inv_out (c : Dev nD) (n : ℕ) (h : n ≤ cfg0.N) : Inv m c n h ⊢ Pipeline.ΦA spec0 c := by
  cases n with
  | zero => exact Idealize.SL.BI.Entails.refl _
  | succ n =>
    rw [PhiA_eq]; unfold Inv
    iintro ⟨⟨HS0, HS1⟩, Hg⟩
    isplitl [HS0 HS1]
    · isplitl [HS0]
      · iexists _; iexact HS0
      iexists _; iexact HS1
    iexact Hg

theorem hout (c : Dev nD) : (rdat m c).Φ (Fin.last cfg0.N) ⊢ Pipeline.ΦA spec0 c := by
  rw [Phi_eq]; exact Inv_out m c _ _

theorem share_eq (c : Dev nD) (w : Fin cfg0.W) : (rdat m c).share w = fullShare := by
  unfold Pipeline.RDat.share; exact ite_self _

/-! ## The run and the frame -/

set_option backward.isDefEq.respectTransparency.types false in
/-- Every run ends with each array at something the write-backs may have left, and every counter at zero. -/
theorem run_main : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c w => share_eq m c w)
    (howed := fun _ _ => rfl) (V := V m) (hmain := hmain m Variants.none) (hA := A_eq m) (hin := hin m) (hout := hout m)

/-- The argument arrays end unchanged. -/
theorem args_kept (r : PUnit × MemSt nD τ sig (Elt F)) (h : Pipeline.RDat.FramePost (cfgs 0) (fun c => rdat m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    ((h c).2 main_arg3 (Pipeline.mem_restRefs_of main_arg3 (by decide) (by decide))).trans (V_main_arg3 m c),
    (Pipeline.RDat.FramePost.arr_in h c 4 rfl).trans ((A_eq m c 4).trans (V_main_arg4 m c))⟩

/-- The frame: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m r h.1 c, h.2⟩) (run_main m ρ)

end Cert.Kernel.Body

end
-- ==== Proof.KernelIdeal.Fns.lean ====
/-
  What the kernel's body computes at one grid point, as functions of the blocks it loads.
-/
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

set_option maxRecDepth 16384

noncomputable section

namespace Cert.KernelIdeal.Body

open Idealize.ShloMosaic Idealize.ShloMosaic.TcCoe
open Idealize.SL Idealize.SL.Sem
open Idealize.ShloMosaic.VecWindow (window put)
open Cert.KernelIdeal.Gen

variable {F : FTy → Type} [FloatOps F] [Named F]

/-! The offsets at which the body reads a shard's scales and writes a batch row's scales. -/

theorem off1_eq : ∀ i : grid0.Coords, k0_off1 i = ![0, (i 0).val / 4, 0] := by decide +kernel
theorem off2_eq : ∀ i : grid0.Coords, k0_off2 i = ![1, (i 0).val / 4, 0] := by decide +kernel
theorem off3_eq : ∀ i : grid0.Coords, k0_off3 i = ![2, (i 0).val / 4, 0] := by decide +kernel
theorem off4_eq : ∀ i : grid0.Coords, k0_off4 i = ![3, (i 0).val / 4, 0] := by decide +kernel
theorem off5_eq : ∀ i : grid0.Coords, k0_off5 i = ![(i 0).val / 4, 0] := by decide +kernel
theorem off6_eq : ∀ i : grid0.Coords, k0_off6 i = ![(i 0).val / 4, 0] := by decide +kernel

instance (i : grid0.Coords) : ClosedOff (k0_off5 i) := ⟨_, off5_eq i⟩
instance (i : grid0.Coords) : ClosedOff (k0_off6 i) := ⟨_, off6_eq i⟩

/-- The tile's number within its batch row, as the body computes it from the grid coordinate. -/
def tileWord (i : grid0.Coords) : BitVec 32 :=
  let r : BitVec 32 := Scalar.remsi (BitVec.ofNat 32 (i 0).val) 4#32
  Scalar.select (Scalar.andi (Scalar.xori (Scalar.cmpi .slt r 0#32) 0#1) (Scalar.cmpi .ne r 0#32)) (Scalar.addi r 4#32) r

/-- The first roll's amount before it is reduced. -/
def rollWord (i : grid0.Coords) : BitVec 32 :=
  Scalar.addi (Scalar.subi 0#32 (Scalar.muli (tileWord i) 32#32)) 128#32

/-- The lane of each element of a 32 by 128 array. -/
def lane : IVec S32x128 32 := iota .tc S32x128 32 [1] iota_S32x128_d1_w32

/-- The row of each element of a 32 by 128 array. -/
def row : IVec S32x128 32 := iota .tc S32x128 32 [0] iota_S32x128_d0_w32

/-- The selection matrix filled from the first three shards' scales. -/
def selHead (i : grid0.Coords) (x1 : Vec F S4x2x128 .f32) : FVec F S32x128 .f32 :=
  k0_pay9 (tileWord i) lane row
    (k0_pay7 (tileWord i) lane row k0_pay5 (k0_pay6 (window x1 (k0_off1 i) S1x1x128.size (k0_off1_inb i))) (rollWord i) 128#32 0#32
      (window x1 (k0_off2 i) S1x1x128.size (k0_off2_inb i)))
    (k0_pay8 (window x1 (k0_off3 i) S1x1x128.size (k0_off3_inb i)))

/-- The last shard's scales, rolled. -/
def selLast (i : grid0.Coords) (x1 : Vec F S4x2x128 .f32) : FVec F S32x128 .f32 :=
  k0_pay10 (tileWord i) (window x1 (k0_off4 i) S1x1x128.size (k0_off4_inb i))

/-- The summed gradient times the normalised residual. -/
def hBlk (i : grid0.Coords) (x0 : Vec F S4x1x32x12288 .fp8e5m2) (x1 : Vec F S4x2x128 .f32) (x2 : Vec F S1x32x12288 .bf16) : FVec F S32x12288 .f32 :=
  k0_pay14 lane row (selHead i x1) (selLast i x1) x0 x2

/-- The residual's gradient before the incoming residual gradient is added. -/
def drBlk (i : grid0.Coords) (x0 : Vec F S4x1x32x12288 .fp8e5m2) (x1 : Vec F S4x2x128 .f32) (x2 : Vec F S1x32x12288 .bf16) (x3 : Vec F S1x12288 .f32) : FVec F S32x12288 .f32 :=
  k0_pay15 lane row (selHead i x1) (selLast i x1) x0 x2 x3

/-- The gradient block written at a point. -/
def gxBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : FVec F S1x32x12288 .bf16 :=
  k0_pay18 (drBlk i x0 x1 x2 x3) x4

/-- Each row's maximum over the quantiser's range. -/
def ratioBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : FVec F S32x1 .f32 :=
  k0_pay24 (drBlk i x0 x1 x2 x3) x4

/-- The exponent field after the search's first five steps. -/
def fieldBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : IVec S32x1 32 :=
  k0_pay26 (ratioBlk i x0 x1 x2 x3 x4) k0_pay25 128#32

/-- Each row's exponent. -/
def expBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : IVec S32x1 32 :=
  k0_pay27 (ratioBlk i x0 x1 x2 x3 x4) (fieldBlk i x0 x1 x2 x3 x4) 4#32

/-- The codes written at a point. -/
def codesBlk (i : grid0.Coords) (x0 : Vec F S4x1x32x12288 .fp8e5m2) (x1 : Vec F S4x2x128 .f32) (x2 : Vec F S1x32x12288 .bf16) (x3 : Vec F S1x12288 .f32) (x4 : Vec F S1x32x12288 .bf16) : FVec F S1x32x12288 .fp8e5m2 :=
  k0_pay1 (k0_pay28 (k0_pay17 (drBlk i x0 x1 x2 x3) x4) (ratioBlk i x0 x1 x2 x3 x4) (fieldBlk i x0 x1 x2 x3 x4) 4#32)

/-- The condition under which the accumulators are cleared: the first point. -/
abbrev isFirst (i : grid0.Coords) : Prop := Scalar.cmpi .ne (Scalar.extui (Scalar.cmpi .eq (BitVec.ofNat 32 (i 0).val) 0#32)) 0#32 = 1#1

/-- The gain accumulator after a point, from what it held before. -/
def gainStep (i : grid0.Coords) (x0 : Vec F S4x1x32x12288 .fp8e5m2) (x1 : Vec F S4x2x128 .f32) (x2 : Vec F S1x32x12288 .bf16) (a : Vec F S8x12288 .f32) : Vec F S8x12288 .f32 :=
  k0_pay22 (hBlk i x0 x1 x2) (if isFirst i then k0_pay19 else a)

/-- The bias accumulator after a point, from what it held before. -/
def biasStep (i : grid0.Coords) (x0 : Vec F S4x1x32x12288 .fp8e5m2) (x1 : Vec F S4x2x128 .f32) (x2 : Vec F S1x32x12288 .bf16) (x3 : Vec F S1x12288 .f32) (x4 : Vec F S1x32x12288 .bf16) (a : Vec F S8x12288 .f32) : Vec F S8x12288 .f32 :=
  k0_pay23 (drBlk i x0 x1 x2 x3) x4 (if isFirst i then k0_pay20 else a)

/-- The scales' buffer after the row of a batch has been cleared, at the batch's first tile. -/
def scaleClear (i : grid0.Coords) (y : Vec F S2x128 .f32) : Vec F S2x128 .f32 :=
  if k0_cond2 i = 1#1 then put (s := S2x128) y (k0_off5 i) S1x128.size (k0_pay21 : FVec F S1x128 .f32) else y

/-- The scales' buffer after a point, from what it held before. -/
def scaleStep (i : grid0.Coords) (x0 : Vec F S4x1x32x12288 .fp8e5m2) (x1 : Vec F S4x2x128 .f32) (x2 : Vec F S1x32x12288 .bf16) (x3 : Vec F S1x12288 .f32) (x4 : Vec F S1x32x12288 .bf16) (y : Vec F S2x128 .f32) : Vec F S2x128 .f32 :=
  put (s := S2x128) (scaleClear i y) (k0_off6 i) S1x128.size
    (k0_pay2 (tileWord i) lane row (expBlk i x0 x1 x2 x3 x4) (window (scaleClear i y) (k0_off6 i) S1x128.size (k0_off6_inb i)))

section Loads

variable {sp : Space} {s : Shape} {e : EltTy} {mr : Memref sig .tc sp s e}

/-- A load of a window of a whole buffer that holds `X` reads that window of `X`. -/
theorem ld_window (h : mr.IsWhole) (X : s.Idx → Elt F e) {off size : Fin s.rank → ℕ} (inb : ∀ a, off a + size a ≤ s.size a) :
    mr.view.readAt (Elt F) (Rect.unit off size inb).toLoadRect (h.unread X) = window X off size inb :=
  (View.readAt_unit _ _ inb rfl inb).trans (by rw [h.read_unread])

/-- A load of all of a whole buffer that holds `X` reads `X`. -/
theorem ld_full (h : mr.IsWhole) (X : s.Idx → Elt F e) {off : Fin s.rank → ℕ} (inb : ∀ a, off a + s.size a ≤ s.size a) :
    mr.view.readAt (Elt F) (Rect.unit off s.size inb).toLoadRect (h.unread X) = X :=
  (View.readAt_full _ _ inb).trans (h.read_unread X)

/-- A load of the window just stored reads the payload, whatever was under it, the store's offsets stated another way. -/
theorem ld_stored (m0 : Memref sig .tc sp s e) {off off' size : Fin s.rank → ℕ} (h : off = off') (inb : ∀ a, off a + size a ≤ s.size a) (inb' : ∀ a, off' a + size a ≤ s.size a)
    (w : (Rect.unit off size inb).shape.Idx → Elt F e) (L : List (View.Piece (Elt F) s e)) :
    m0.view.readCov (⟨Rect.unit off size inb, w⟩ :: L) (Rect.unit off' size inb').toLoadRect = w := by
  subst h
  refine (View.readAt_unit _ _ inb' rfl inb').trans ?_
  rw [View.read_writes_cons_put _ _ _ _ _ rfl]
  exact VecWindow.window_put_same _ _ _ _ _

end Loads

theorem scaleStep_clear (i : grid0.Coords) (h : k0_cond2 i = 1#1) (x0 : Vec F S4x1x32x12288 .fp8e5m2) (x1 : Vec F S4x2x128 .f32) (x2 : Vec F S1x32x12288 .bf16) (x3 : Vec F S1x12288 .f32) (x4 : Vec F S1x32x12288 .bf16) (y : Vec F S2x128 .f32) :
    scaleStep i x0 x1 x2 x3 x4 y
      = put (s := S2x128) (put (s := S2x128) y (k0_off5 i) S1x128.size (k0_pay21 : FVec F S1x128 .f32)) (k0_off6 i) S1x128.size (k0_pay2 (tileWord i) lane row (expBlk i x0 x1 x2 x3 x4) k0_pay21) := by
  have e : k0_off5 i = k0_off6 i := (off5_eq i).trans (off6_eq i).symm
  have e2 : window (put (s := S2x128) y (k0_off5 i) S1x128.size (k0_pay21 : FVec F S1x128 .f32)) (k0_off6 i) S1x128.size (k0_off6_inb i) = k0_pay21 := by
    rw [e]; exact VecWindow.window_put_same _ _ _ _ _
  unfold scaleStep scaleClear
  rw [if_pos h, e2]

theorem scaleStep_keep (i : grid0.Coords) (h : ¬ k0_cond2 i = 1#1) (x0 : Vec F S4x1x32x12288 .fp8e5m2) (x1 : Vec F S4x2x128 .f32) (x2 : Vec F S1x32x12288 .bf16) (x3 : Vec F S1x12288 .f32) (x4 : Vec F S1x32x12288 .bf16) (y : Vec F S2x128 .f32) :
    scaleStep i x0 x1 x2 x3 x4 y
      = put (s := S2x128) y (k0_off6 i) S1x128.size (k0_pay2 (tileWord i) lane row (expBlk i x0 x1 x2 x3 x4) (window y (k0_off6 i) S1x128.size (k0_off6_inb i))) := by
  unfold scaleStep scaleClear
  rw [if_neg h]

end Cert.KernelIdeal.Body

end
-- ==== Proof.KernelIdeal.RunA.lean ====
/-
  The body's run at the first point, which is also the first tile of a batch row.
-/
module

public import proofs.«01_k».proof.Proof.KernelIdeal.Fns
public import Idealize.ShloMosaic.Lib.WholeRead
public import Idealize.ShloMosaic.Lib.Tactic.Stretches

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.KernelIdeal.Gen

variable {F : FTy → Type} [FloatOps F] [Named F]

local notation "𝕄" => MT nD τ sig Unit (Elt F) ℕ (UR sig nD τ) ℕ

set_option maxHeartbeats 4000000 in
/-- The body at the first point, which is also the first tile of a batch row: the inputs stay, the two block outputs hold this point's blocks, the accumulators and the scales' buffer take one step. -/
theorem run_A (c : Dev nD) (i : grid0.Coords) (arg1 : Memref sig .tc .vmem S4x1x32x12288 .fp8e5m2) (harg1 : arg1.IsWhole) (arg2 : Memref sig .tc .vmem S4x2x128 .f32) (harg2 : arg2.IsWhole) (arg3 : Memref sig .tc .vmem S1x32x12288 .bf16) (harg3 : arg3.IsWhole) (arg4 : Memref sig .tc .vmem S1x12288 .f32) (harg4 : arg4.IsWhole) (arg5 : Memref sig .tc .vmem S1x32x12288 .bf16) (harg5 : arg5.IsWhole) (arg6 : Memref sig .tc .vmem S1x32x12288 .bf16) (harg6 : arg6.IsWhole) (arg7 : Memref sig .tc .vmem S1x12288 .f32) (harg7 : arg7.IsWhole) (arg8 : Memref sig .tc .vmem S1x12288 .f32) (harg8 : arg8.IsWhole) (arg9 : Memref sig .tc .vmem S1x32x12288 .fp8e5m2) (harg9 : arg9.IsWhole) (arg10 : Memref sig .tc .vmem S2x128 .f32) (harg10 : arg10.IsWhole) (arg11 : Memref sig .tc .vmem S8x12288 .f32) (harg11 : arg11.IsWhole) (arg12 : Memref sig .tc .vmem S8x12288 .f32) (harg12 : arg12.IsWhole)
    (hc0 : isFirst i) (hc1 : k0_cond2 i = 1#1) (hc2 : ¬ k0_cond3 i = 1#1)
    (x0 : Vec F S4x1x32x12288 .fp8e5m2) (x1 : Vec F S4x2x128 .f32) (x2 : Vec F S1x32x12288 .bf16) (x3 : Vec F S1x12288 .f32) (x4 : Vec F S1x32x12288 .bf16)
    (y6 y7 : Vec F S1x12288 .f32) (y9 : Vec F S2x128 .f32) (a0 a1 : Vec F S8x12288 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d) ∗ owns (c : Thread nD τ) arg10 fullShare y9 ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gxBlk i x0 x1 x2 x3 x4) ∗ owns (c : Thread nD τ) arg7 fullShare y6 ∗ owns (c : Thread nD τ) arg8 fullShare y7 ∗ owns (c : Thread nD τ) arg9 fullShare (codesBlk i x0 x1 x2 x3 x4) ∗ owns (c : Thread nD τ) arg10 fullShare (scaleStep i x0 x1 x2 x3 x4 y9) ∗ owns (c : Thread nD τ) arg11 fullShare (gainStep i x0 x1 x2 a0) ∗ owns (c : Thread nD τ) arg12 fullShare (biasStep i x0 x1 x2 x3 x4 a1)) -∗ K ⟨⟩))
      ⊢ wp frame (wpE (defs₀ (F := F)) Variants.none c none) E (cc0_rmsnorm_bwd_quant i arg1 harg1 arg2 harg2 arg3 harg3 arg4 harg4 arg5 harg5 arg6 harg6 arg7 harg7 arg8 harg8 arg9 harg9 arg10 harg10 arg11 harg11 arg12 harg12) K := by
  simp only [cc0_rmsnorm_bwd_quant_eq_skeleton]; unfold cc0_rmsnorm_bwd_quant_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg10.eq_unread hf9; obtain rfl := harg11.eq_unread hfs0; obtain rfl := harg12.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_open_run; rw [View.read_writes_full]; simp only [ld_full harg1 x0, ld_window harg2 x1, ld_full harg3 x2, ld_full harg4 x3, ld_full harg5 x4]; rfl
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    sl_open_run; rw [View.read_writes_full]; simp only [ld_full harg1 x0, ld_window harg2 x1, ld_full harg3 x2, ld_full harg4 x3, ld_full harg5 x4]; rfl
  isplitl [H9]
  · iexists _; isplitr; swap; · iexact H9
    ipureintro
    sl_open_run; rw [View.read_writes_cons_put _ _ _ _ _ rfl]; simp only [ld_full harg1 x0, ld_window harg2 x1, ld_full harg3 x2, ld_full harg4 x3, ld_full harg5 x4, ld_stored arg10 ((off5_eq i).trans (off6_eq i).symm)]; rw [View.read_writes_cons_put _ _ _ _ _ rfl, View.writes_nil, harg10.read_unread, scaleStep_clear i hc1]; rfl
  isplitl [HS0]
  · iexists _; isplitr; swap; · iexact HS0
    ipureintro
    sl_open_run; rw [View.read_writes_full]; simp only [ld_full harg1 x0, ld_window harg2 x1, ld_full harg3 x2, ld_full harg4 x3, ld_full harg5 x4, ld_stored arg11 rfl]; unfold gainStep; rw [if_pos hc0]; rfl
  iexists _; isplitr; swap; · iexact HS1
  ipureintro
  sl_open_run; rw [View.read_writes_full]; simp only [ld_full harg1 x0, ld_window harg2 x1, ld_full harg3 x2, ld_full harg4 x3, ld_full harg5 x4, ld_stored arg12 rfl]; unfold biasStep; rw [if_pos hc0]; rfl

end Cert.KernelIdeal.Body

end
-- ==== Proof.KernelIdeal.RunB.lean ====
/-
  The body's run at a point that is neither the first tile of a batch row nor the last point.
-/
module

public import proofs.«01_k».proof.Proof.KernelIdeal.RunA
public import Idealize.ShloMosaic.Lib.WholeRead
public import Idealize.ShloMosaic.Lib.Tactic.Stretches

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.KernelIdeal.Gen

variable {F : FTy → Type} [FloatOps F] [Named F]

local notation "𝕄" => MT nD τ sig Unit (Elt F) ℕ (UR sig nD τ) ℕ

set_option maxHeartbeats 4000000 in
/-- The body at a point that is neither the first tile of a batch row nor the last point: the inputs stay, the two block outputs hold this point's blocks, the accumulators and the scales' buffer take one step. -/
theorem run_B (c : Dev nD) (i : grid0.Coords) (arg1 : Memref sig .tc .vmem S4x1x32x12288 .fp8e5m2) (harg1 : arg1.IsWhole) (arg2 : Memref sig .tc .vmem S4x2x128 .f32) (harg2 : arg2.IsWhole) (arg3 : Memref sig .tc .vmem S1x32x12288 .bf16) (harg3 : arg3.IsWhole) (arg4 : Memref sig .tc .vmem S1x12288 .f32) (harg4 : arg4.IsWhole) (arg5 : Memref sig .tc .vmem S1x32x12288 .bf16) (harg5 : arg5.IsWhole) (arg6 : Memref sig .tc .vmem S1x32x12288 .bf16) (harg6 : arg6.IsWhole) (arg7 : Memref sig .tc .vmem S1x12288 .f32) (harg7 : arg7.IsWhole) (arg8 : Memref sig .tc .vmem S1x12288 .f32) (harg8 : arg8.IsWhole) (arg9 : Memref sig .tc .vmem S1x32x12288 .fp8e5m2) (harg9 : arg9.IsWhole) (arg10 : Memref sig .tc .vmem S2x128 .f32) (harg10 : arg10.IsWhole) (arg11 : Memref sig .tc .vmem S8x12288 .f32) (harg11 : arg11.IsWhole) (arg12 : Memref sig .tc .vmem S8x12288 .f32) (harg12 : arg12.IsWhole)
    (hc0 : ¬ isFirst i) (hc1 : ¬ k0_cond2 i = 1#1) (hc2 : ¬ k0_cond3 i = 1#1)
    (x0 : Vec F S4x1x32x12288 .fp8e5m2) (x1 : Vec F S4x2x128 .f32) (x2 : Vec F S1x32x12288 .bf16) (x3 : Vec F S1x12288 .f32) (x4 : Vec F S1x32x12288 .bf16)
    (y6 y7 : Vec F S1x12288 .f32) (y9 : Vec F S2x128 .f32) (a0 a1 : Vec F S8x12288 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d) ∗ owns (c : Thread nD τ) arg10 fullShare y9 ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gxBlk i x0 x1 x2 x3 x4) ∗ owns (c : Thread nD τ) arg7 fullShare y6 ∗ owns (c : Thread nD τ) arg8 fullShare y7 ∗ owns (c : Thread nD τ) arg9 fullShare (codesBlk i x0 x1 x2 x3 x4) ∗ owns (c : Thread nD τ) arg10 fullShare (scaleStep i x0 x1 x2 x3 x4 y9) ∗ owns (c : Thread nD τ) arg11 fullShare (gainStep i x0 x1 x2 a0) ∗ owns (c : Thread nD τ) arg12 fullShare (biasStep i x0 x1 x2 x3 x4 a1)) -∗ K ⟨⟩))
      ⊢ wp frame (wpE (defs₀ (F := F)) Variants.none c none) E (cc0_rmsnorm_bwd_quant i arg1 harg1 arg2 harg2 arg3 harg3 arg4 harg4 arg5 harg5 arg6 harg6 arg7 harg7 arg8 harg8 arg9 harg9 arg10 harg10 arg11 harg11 arg12 harg12) K := by
  simp only [cc0_rmsnorm_bwd_quant_eq_skeleton]; unfold cc0_rmsnorm_bwd_quant_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg10.eq_unread hf9; obtain rfl := harg11.eq_unread hfs0; obtain rfl := harg12.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_open_run; rw [View.read_writes_full]; simp only [ld_full harg1 x0, ld_window harg2 x1, ld_full harg3 x2, ld_full harg4 x3, ld_full harg5 x4]; rfl
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    sl_open_run; rw [View.read_writes_full]; simp only [ld_full harg1 x0, ld_window harg2 x1, ld_full harg3 x2, ld_full harg4 x3, ld_full harg5 x4]; rfl
  isplitl [H9]
  · iexists _; isplitr; swap; · iexact H9
    ipureintro
    sl_open_run; rw [View.read_writes_cons_put _ _ _ _ _ rfl]; simp only [ld_full harg1 x0, ld_window harg2 x1, ld_full harg3 x2, ld_full harg4 x3, ld_full harg5 x4, ld_window harg10 y9]; rw [View.writes_nil, harg10.read_unread, scaleStep_keep i hc1]; rfl
  isplitl [HS0]
  · iexists _; isplitr; swap; · iexact HS0
    ipureintro
    sl_open_run; rw [View.read_writes_full]; simp only [ld_full harg1 x0, ld_window harg2 x1, ld_full harg3 x2, ld_full harg4 x3, ld_full harg5 x4, ld_full harg11 a0]; unfold gainStep; rw [if_neg hc0]; rfl
  iexists _; isplitr; swap; · iexact HS1
  ipureintro
  sl_open_run; rw [View.read_writes_full]; simp only [ld_full harg1 x0, ld_window harg2 x1, ld_full harg3 x2, ld_full harg4 x3, ld_full harg5 x4, ld_full harg12 a1]; unfold biasStep; rw [if_neg hc0]; rfl

end Cert.KernelIdeal.Body

end
-- ==== Proof.KernelIdeal.RunC.lean ====
/-
  The body's run at the first tile of a later batch row.
-/
module

public import proofs.«01_k».proof.Proof.KernelIdeal.RunB
public import Idealize.ShloMosaic.Lib.WholeRead
public import Idealize.ShloMosaic.Lib.Tactic.Stretches

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.KernelIdeal.Gen

variable {F : FTy → Type} [FloatOps F] [Named F]

local notation "𝕄" => MT nD τ sig Unit (Elt F) ℕ (UR sig nD τ) ℕ

set_option maxHeartbeats 4000000 in
/-- The body at the first tile of a later batch row: the inputs stay, the two block outputs hold this point's blocks, the accumulators and the scales' buffer take one step. -/
theorem run_C (c : Dev nD) (i : grid0.Coords) (arg1 : Memref sig .tc .vmem S4x1x32x12288 .fp8e5m2) (harg1 : arg1.IsWhole) (arg2 : Memref sig .tc .vmem S4x2x128 .f32) (harg2 : arg2.IsWhole) (arg3 : Memref sig .tc .vmem S1x32x12288 .bf16) (harg3 : arg3.IsWhole) (arg4 : Memref sig .tc .vmem S1x12288 .f32) (harg4 : arg4.IsWhole) (arg5 : Memref sig .tc .vmem S1x32x12288 .bf16) (harg5 : arg5.IsWhole) (arg6 : Memref sig .tc .vmem S1x32x12288 .bf16) (harg6 : arg6.IsWhole) (arg7 : Memref sig .tc .vmem S1x12288 .f32) (harg7 : arg7.IsWhole) (arg8 : Memref sig .tc .vmem S1x12288 .f32) (harg8 : arg8.IsWhole) (arg9 : Memref sig .tc .vmem S1x32x12288 .fp8e5m2) (harg9 : arg9.IsWhole) (arg10 : Memref sig .tc .vmem S2x128 .f32) (harg10 : arg10.IsWhole) (arg11 : Memref sig .tc .vmem S8x12288 .f32) (harg11 : arg11.IsWhole) (arg12 : Memref sig .tc .vmem S8x12288 .f32) (harg12 : arg12.IsWhole)
    (hc0 : ¬ isFirst i) (hc1 : k0_cond2 i = 1#1) (hc2 : ¬ k0_cond3 i = 1#1)
    (x0 : Vec F S4x1x32x12288 .fp8e5m2) (x1 : Vec F S4x2x128 .f32) (x2 : Vec F S1x32x12288 .bf16) (x3 : Vec F S1x12288 .f32) (x4 : Vec F S1x32x12288 .bf16)
    (y6 y7 : Vec F S1x12288 .f32) (y9 : Vec F S2x128 .f32) (a0 a1 : Vec F S8x12288 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d) ∗ owns (c : Thread nD τ) arg10 fullShare y9 ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gxBlk i x0 x1 x2 x3 x4) ∗ owns (c : Thread nD τ) arg7 fullShare y6 ∗ owns (c : Thread nD τ) arg8 fullShare y7 ∗ owns (c : Thread nD τ) arg9 fullShare (codesBlk i x0 x1 x2 x3 x4) ∗ owns (c : Thread nD τ) arg10 fullShare (scaleStep i x0 x1 x2 x3 x4 y9) ∗ owns (c : Thread nD τ) arg11 fullShare (gainStep i x0 x1 x2 a0) ∗ owns (c : Thread nD τ) arg12 fullShare (biasStep i x0 x1 x2 x3 x4 a1)) -∗ K ⟨⟩))
      ⊢ wp frame (wpE (defs₀ (F := F)) Variants.none c none) E (cc0_rmsnorm_bwd_quant i arg1 harg1 arg2 harg2 arg3 harg3 arg4 harg4 arg5 harg5 arg6 harg6 arg7 harg7 arg8 harg8 arg9 harg9 arg10 harg10 arg11 harg11 arg12 harg12) K := by
  simp only [cc0_rmsnorm_bwd_quant_eq_skeleton]; unfold cc0_rmsnorm_bwd_quant_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg10.eq_unread hf9; obtain rfl := harg11.eq_unread hfs0; obtain rfl := harg12.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_open_run; rw [View.read_writes_full]; simp only [ld_full harg1 x0, ld_window harg2 x1, ld_full harg3 x2, ld_full harg4 x3, ld_full harg5 x4]; rfl
  isplitl [H6]
  · iexists _; isplitr; swap; · iexact H6
    ipureintro
    exact harg7.read_unread _
  isplitl [H7]
  · iexists _; isplitr; swap; · iexact H7
    ipureintro
    exact harg8.read_unread _
  isplitl [H8]
  · iexists _; isplitr; swap; · iexact H8
    ipureintro
    sl_open_run; rw [View.read_writes_full]; simp only [ld_full harg1 x0, ld_window harg2 x1, ld_full harg3 x2, ld_full harg4 x3, ld_full harg5 x4]; rfl
  isplitl [H9]
  · iexists _; isplitr; swap; · iexact H9
    ipureintro
    sl_open_run; rw [View.read_writes_cons_put _ _ _ _ _ rfl]; simp only [ld_full harg1 x0, ld_window harg2 x1, ld_full harg3 x2, ld_full harg4 x3, ld_full harg5 x4, ld_stored arg10 ((off5_eq i).trans (off6_eq i).symm)]; rw [View.read_writes_cons_put _ _ _ _ _ rfl, View.writes_nil, harg10.read_unread, scaleStep_clear i hc1]; rfl
  isplitl [HS0]
  · iexists _; isplitr; swap; · iexact HS0
    ipureintro
    sl_open_run; rw [View.read_writes_full]; simp only [ld_full harg1 x0, ld_window harg2 x1, ld_full harg3 x2, ld_full harg4 x3, ld_full harg5 x4, ld_full harg11 a0]; unfold gainStep; rw [if_neg hc0]; rfl
  iexists _; isplitr; swap; · iexact HS1
  ipureintro
  sl_open_run; rw [View.read_writes_full]; simp only [ld_full harg1 x0, ld_window harg2 x1, ld_full harg3 x2, ld_full harg4 x3, ld_full harg5 x4, ld_full harg12 a1]; unfold biasStep; rw [if_neg hc0]; rfl

end Cert.KernelIdeal.Body

end
-- ==== Proof.KernelIdeal.RunD.lean ====
/-
  The body's run at the last point.
-/
module

public import proofs.«01_k».proof.Proof.KernelIdeal.RunC
public import Idealize.ShloMosaic.Lib.WholeRead
public import Idealize.ShloMosaic.Lib.Tactic.Stretches

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)
open Cert.KernelIdeal.Gen

variable {F : FTy → Type} [FloatOps F] [Named F]

local notation "𝕄" => MT nD τ sig Unit (Elt F) ℕ (UR sig nD τ) ℕ

set_option maxHeartbeats 4000000 in
/-- The body at the last point: the inputs stay, the two block outputs hold this point's blocks, the accumulators and the scales' buffer take one step. -/
theorem run_D (c : Dev nD) (i : grid0.Coords) (arg1 : Memref sig .tc .vmem S4x1x32x12288 .fp8e5m2) (harg1 : arg1.IsWhole) (arg2 : Memref sig .tc .vmem S4x2x128 .f32) (harg2 : arg2.IsWhole) (arg3 : Memref sig .tc .vmem S1x32x12288 .bf16) (harg3 : arg3.IsWhole) (arg4 : Memref sig .tc .vmem S1x12288 .f32) (harg4 : arg4.IsWhole) (arg5 : Memref sig .tc .vmem S1x32x12288 .bf16) (harg5 : arg5.IsWhole) (arg6 : Memref sig .tc .vmem S1x32x12288 .bf16) (harg6 : arg6.IsWhole) (arg7 : Memref sig .tc .vmem S1x12288 .f32) (harg7 : arg7.IsWhole) (arg8 : Memref sig .tc .vmem S1x12288 .f32) (harg8 : arg8.IsWhole) (arg9 : Memref sig .tc .vmem S1x32x12288 .fp8e5m2) (harg9 : arg9.IsWhole) (arg10 : Memref sig .tc .vmem S2x128 .f32) (harg10 : arg10.IsWhole) (arg11 : Memref sig .tc .vmem S8x12288 .f32) (harg11 : arg11.IsWhole) (arg12 : Memref sig .tc .vmem S8x12288 .f32) (harg12 : arg12.IsWhole)
    (hc0 : ¬ isFirst i) (hc1 : ¬ k0_cond2 i = 1#1) (hc2 : k0_cond3 i = 1#1)
    (x0 : Vec F S4x1x32x12288 .fp8e5m2) (x1 : Vec F S4x2x128 .f32) (x2 : Vec F S1x32x12288 .bf16) (x3 : Vec F S1x12288 .f32) (x4 : Vec F S1x32x12288 .bf16)
    (y6 y7 : Vec F S1x12288 .f32) (y9 : Vec F S2x128 .f32) (a0 a1 : Vec F S8x12288 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y6 ∗ owns (c : Thread nD τ) arg8 fullShare y7 ∗ (∃ d, owns (c : Thread nD τ) arg9 fullShare d) ∗ owns (c : Thread nD τ) arg10 fullShare y9 ∗ owns (c : Thread nD τ) arg11 fullShare a0 ∗ owns (c : Thread nD τ) arg12 fullShare a1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (gxBlk i x0 x1 x2 x3 x4) ∗ owns (c : Thread nD τ) arg7 fullShare (k0_pay3 (gainStep i x0 x1 x2 a0)) ∗ owns (c : Thread nD τ) arg8 fullShare (k0_pay4 (biasStep i x0 x1 x2 x3 x4 a1)) ∗ owns (c : Thread nD τ) arg9 fullShare (codesBlk i x0 x1 x2 x3 x4) ∗ owns (c : Thread nD τ) arg10 fullShare (scaleStep i x0 x1 x2 x3 x4 y9) ∗ owns (c : Thread nD τ) arg11 fullShare (gainStep i x0 x1 x2 a0) ∗ owns (c : Thread nD τ) arg12 fullShare (biasStep i x0 x1 x2 x3 x4 a1)) -∗ K ⟨⟩))
      ⊢ wp frame (wpE (defs₀ (F := F)) Variants.none c none) E (cc0_rmsnorm_bwd_quant i arg1 harg1 arg2 harg2 arg3 harg3 arg4 harg4 arg5 harg5 arg6 harg6 arg7 harg7 arg8 harg8 arg9 harg9 arg10 harg10 arg11 harg11 arg12 harg12) K := by
  simp only [cc0_rmsnorm_bwd_quant_eq_skeleton]; unfold cc0_rmsnorm_bwd_quant_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg7.eq_unread hf6; obtain rfl := harg8.eq_unread hf7; obtain rfl := harg10.eq_unread hf9; obtain rfl := harg11.eq_unread hfs0; obtain rfl := harg12.eq_unread hfs1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_open_run; rw [View.read_writes_full]; simp only [ld_full harg1 x0, ld_window harg2 x1, ld_full harg3 x2, ld_full harg4 x3, ld_full harg5 x4]; rfl
  isplitl [H6]
  · iexists _; isplitr; swap; · iexact H6
    ipureintro
    sl_open_run; rw [View.read_writes_full]; simp only [ld_full harg1 x0, ld_window harg2 x1, ld_full harg3 x2, ld_full harg4 x3, ld_full harg5 x4, ld_stored arg11 rfl, ld_full harg11 a0]; unfold gainStep; rw [if_neg hc0]; rfl
  isplitl [H7]
  · iexists _; isplitr; swap; · iexact H7
    ipureintro
    sl_open_run; rw [View.read_writes_full]; simp only [ld_full harg1 x0, ld_window harg2 x1, ld_full harg3 x2, ld_full harg4 x3, ld_full harg5 x4, ld_stored arg12 rfl, ld_full harg12 a1]; unfold biasStep; rw [if_neg hc0]; rfl
  isplitl [H8]
  · iexists _; isplitr; swap; · iexact H8
    ipureintro
    sl_open_run; rw [View.read_writes_full]; simp only [ld_full harg1 x0, ld_window harg2 x1, ld_full harg3 x2, ld_full harg4 x3, ld_full harg5 x4]; rfl
  isplitl [H9]
  · iexists _; isplitr; swap; · iexact H9
    ipureintro
    sl_open_run; rw [View.read_writes_cons_put _ _ _ _ _ rfl]; simp only [ld_full harg1 x0, ld_window harg2 x1, ld_full harg3 x2, ld_full harg4 x3, ld_full harg5 x4, ld_window harg10 y9]; rw [View.writes_nil, harg10.read_unread, scaleStep_keep i hc1]; rfl
  isplitl [HS0]
  · iexists _; isplitr; swap; · iexact HS0
    ipureintro
    sl_open_run; rw [View.read_writes_full]; simp only [ld_full harg1 x0, ld_window harg2 x1, ld_full harg3 x2, ld_full harg4 x3, ld_full harg5 x4, ld_full harg11 a0]; unfold gainStep; rw [if_neg hc0]; rfl
  iexists _; isplitr; swap; · iexact HS1
  ipureintro
  sl_open_run; rw [View.read_writes_full]; simp only [ld_full harg1 x0, ld_window harg2 x1, ld_full harg3 x2, ld_full harg4 x3, ld_full harg5 x4, ld_full harg12 a1]; unfold biasStep; rw [if_neg hc0]; rfl

end Cert.KernelIdeal.Body

end
-- ==== Proof.KernelIdeal.Run.lean ====
/-
  The pipeline's proof data, its body obligation, the launch and the frame of `Cert.KernelIdeal`'s program: every run ends
  with the argument arrays unchanged and each result array at what the body left there.
-/
module

public import proofs.«01_k».proof.Proof.KernelIdeal.RunD
public import proofs.«01_k».proof.Proof.Gen.KernelIdeal.Frame
public import Idealize.ShloMosaic.Lib.Pipeline.ArrRel

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which points take which branch -/

theorem first_iff : ∀ t : Fin cfg0.N, isFirst (grid0.coords t) ↔ t.val = 0 :=
  (by decide +kernel : ∀ t : Fin grid0.N, isFirst (grid0.coords t) ↔ t.val = 0)
theorem clear_iff : ∀ t : Fin cfg0.N, k0_cond2 (grid0.coords t) = 1#1 ↔ t.val % 4 = 0 :=
  (by decide +kernel : ∀ t : Fin grid0.N, k0_cond2 (grid0.coords t) = 1#1 ↔ t.val % 4 = 0)
theorem last_iff : ∀ t : Fin cfg0.N, k0_cond3 (grid0.coords t) = 1#1 ↔ t.val = 7 :=
  (by decide +kernel : ∀ t : Fin grid0.N, k0_cond3 (grid0.coords t) = 1#1 ↔ t.val = 7)

/-! ## The staging buffers and the accumulators -/

/-- Window 0's staging buffer at a point, and that it is whole. -/
abbrev ms0 (t : Fin cfg0.N) : Memref sig .tc .vmem S4x1x32x12288 .fp8e5m2 := win0_0.stage (cfg0.slots t 0)
abbrev hs0 (t : Fin cfg0.N) : (ms0 t).IsWhole := hstage0_0 ((cfg0.slots t 0).cast nbuf0_0)
/-- Window 1's staging buffer at a point, and that it is whole. -/
abbrev ms1 (t : Fin cfg0.N) : Memref sig .tc .vmem S4x2x128 .f32 := win0_1.stage (cfg0.slots t 1)
abbrev hs1 (t : Fin cfg0.N) : (ms1 t).IsWhole := hstage0_1 ((cfg0.slots t 1).cast nbuf0_1)
/-- Window 2's staging buffer at a point, and that it is whole. -/
abbrev ms2 (t : Fin cfg0.N) : Memref sig .tc .vmem S1x32x12288 .bf16 := win0_2.stage (cfg0.slots t 2)
abbrev hs2 (t : Fin cfg0.N) : (ms2 t).IsWhole := hstage0_2 ((cfg0.slots t 2).cast nbuf0_2)
/-- Window 3's staging buffer at a point, and that it is whole. -/
abbrev ms3 (t : Fin cfg0.N) : Memref sig .tc .vmem S1x12288 .f32 := win0_3.stage (cfg0.slots t 3)
abbrev hs3 (t : Fin cfg0.N) : (ms3 t).IsWhole := hstage0_3 ((cfg0.slots t 3).cast nbuf0_3)
/-- Window 4's staging buffer at a point, and that it is whole. -/
abbrev ms4 (t : Fin cfg0.N) : Memref sig .tc .vmem S1x32x12288 .bf16 := win0_4.stage (cfg0.slots t 4)
abbrev hs4 (t : Fin cfg0.N) : (ms4 t).IsWhole := hstage0_4 ((cfg0.slots t 4).cast nbuf0_4)
/-- Window 5's staging buffer at a point, and that it is whole. -/
abbrev ms5 (t : Fin cfg0.N) : Memref sig .tc .vmem S1x32x12288 .bf16 := win0_5.stage (cfg0.slots t 5)
abbrev hs5 (t : Fin cfg0.N) : (ms5 t).IsWhole := hstage0_5 ((cfg0.slots t 5).cast nbuf0_5)
/-- Window 6's staging buffer at a point, and that it is whole. -/
abbrev ms6 (t : Fin cfg0.N) : Memref sig .tc .vmem S1x12288 .f32 := win0_6.stage (cfg0.slots t 6)
abbrev hs6 (t : Fin cfg0.N) : (ms6 t).IsWhole := hstage0_6 ((cfg0.slots t 6).cast nbuf0_6)
/-- Window 7's staging buffer at a point, and that it is whole. -/
abbrev ms7 (t : Fin cfg0.N) : Memref sig .tc .vmem S1x12288 .f32 := win0_7.stage (cfg0.slots t 7)
abbrev hs7 (t : Fin cfg0.N) : (ms7 t).IsWhole := hstage0_7 ((cfg0.slots t 7).cast nbuf0_7)
/-- Window 8's staging buffer at a point, and that it is whole. -/
abbrev ms8 (t : Fin cfg0.N) : Memref sig .tc .vmem S1x32x12288 .fp8e5m2 := win0_8.stage (cfg0.slots t 8)
abbrev hs8 (t : Fin cfg0.N) : (ms8 t).IsWhole := hstage0_8 ((cfg0.slots t 8).cast nbuf0_8)
/-- Window 9's staging buffer at a point, and that it is whole. -/
abbrev ms9 (t : Fin cfg0.N) : Memref sig .tc .vmem S2x128 .f32 := win0_9.stage (cfg0.slots t 9)
abbrev hs9 (t : Fin cfg0.N) : (ms9 t).IsWhole := hstage0_9 ((cfg0.slots t 9).cast nbuf0_9)
/-- The gain accumulator's buffer. -/
abbrev scG : Memref sig .tc .vmem S8x12288 .f32 := Memref.whole cc0_scratch0
/-- The bias accumulator's buffer. -/
abbrev scB : Memref sig .tc .vmem S8x12288 .f32 := Memref.whole cc0_scratch1

/-- What the launch gives and takes back: both accumulators' buffers at anything, and the generator register. -/
theorem PhiA_eq (c : Dev nD) :
    (Pipeline.ΦA spec0 c : sProp 𝕄)
      = iprop(iprop((∃ d, owns (c : Thread nD τ) scG fullShare d) ∗ (∃ d, owns (c : Thread nD τ) scB fullShare d)) ∗ (∃ r, prngReg c r)) := by
  unfold Pipeline.ΦA; rw [scopedRest0_eq]; simp only [scG, scB, owns_whole]; try rfl

/-- The two accumulators after point `n`. -/
def accs (c : Dev nD) : (n : ℕ) → n < cfg0.N → Vec F S8x12288 .f32 × Vec F S8x12288 .f32
  | 0, h => (gainStep (grid0.coords ⟨0, h⟩) (iblk m c 0 ⟨0, h⟩) (iblk m c 1 ⟨0, h⟩) (iblk m c 2 ⟨0, h⟩) k0_pay19, biasStep (grid0.coords ⟨0, h⟩) (iblk m c 0 ⟨0, h⟩) (iblk m c 1 ⟨0, h⟩) (iblk m c 2 ⟨0, h⟩) (iblk m c 3 ⟨0, h⟩) (iblk m c 4 ⟨0, h⟩) k0_pay20)
  | n + 1, h => (gainStep (grid0.coords ⟨n + 1, h⟩) (iblk m c 0 ⟨n + 1, h⟩) (iblk m c 1 ⟨n + 1, h⟩) (iblk m c 2 ⟨n + 1, h⟩) (accs c n (Nat.lt_of_succ_lt h)).1,
      biasStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (accs c n (Nat.lt_of_succ_lt h)).2)

/-- The invariant before point `n`: the accumulators at what the point before left, at anything before the first. -/
def Inv (c : Dev nD) : (n : ℕ) → n ≤ cfg0.N → sProp 𝕄
  | 0, _ => Pipeline.ΦA spec0 c
  | n + 1, hn => iprop(iprop(owns (c : Thread nD τ) scG fullShare (accs m c n hn).1 ∗ owns (c : Thread nD τ) scB fullShare (accs m c n hn).2) ∗ (∃ r, prngReg c r))

theorem Inv_succ (c : Dev nD) (n : ℕ) (hn : n + 1 ≤ cfg0.N) :
    Inv m c (n + 1) hn = iprop(iprop(owns (c : Thread nD τ) scG fullShare (accs m c n hn).1 ∗ owns (c : Thread nD τ) scB fullShare (accs m c n hn).2) ∗ (∃ r, prngReg c r)) := rfl

/-- Before any point, the accumulators hold values from which this point's step makes this point's contents. -/
theorem Inv_open (c : Dev nD) (t : Fin cfg0.N) (h : t.val ≤ cfg0.N) :
    Inv m c t.val h ⊢ iprop(∃ a0 a1, ⌜gainStep (grid0.coords t) (iblk m c 0 t) (iblk m c 1 t) (iblk m c 2 t) a0 = (accs m c t.val t.isLt).1
        ∧ biasStep (grid0.coords t) (iblk m c 0 t) (iblk m c 1 t) (iblk m c 2 t) (iblk m c 3 t) (iblk m c 4 t) a1 = (accs m c t.val t.isLt).2⌝
      ∗ owns (c : Thread nD τ) scG fullShare a0 ∗ owns (c : Thread nD τ) scB fullShare a1 ∗ (∃ r, prngReg c r)) := by
  obtain ⟨n, hn⟩ := t
  cases n with
  | zero =>
    show Pipeline.ΦA spec0 c ⊢ _
    rw [PhiA_eq]
    iintro ⟨⟨⟨%a0, HS0⟩, ⟨%a1, HS1⟩⟩, Hg⟩
    iexists a0, a1
    isplitr
    · ipureintro
      have hf : isFirst (grid0.coords ⟨0, hn⟩) := (first_iff ⟨0, hn⟩).mpr rfl
      constructor
      · show _ = gainStep _ _ _ _ _
        unfold gainStep; rw [if_pos hf, if_pos hf]
      · show _ = biasStep _ _ _ _ _ _ _
        unfold biasStep; rw [if_pos hf, if_pos hf]
    isplitl [HS0]; · iexact HS0
    isplitl [HS1]; · iexact HS1
    iexact Hg
  | succ n =>
    unfold Inv
    iintro ⟨⟨HS0, HS1⟩, Hg⟩
    iexists _, _
    isplitr; swap
    · isplitl [HS0]; · iexact HS0
      isplitl [HS1]; · iexact HS1
      iexact Hg
    ipureintro
    exact ⟨rfl, rfl⟩

/-! ## The proof data -/

/-- The proof data of the pipeline: an input's buffer stays; the two block outputs hold the point's blocks; the two
    vector outputs are written at the last point; the scales' buffer takes the point's step from what it held. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => X = gxBlk (grid0.coords t) (iblk m c 0 t) (iblk m c 1 t) (iblk m c 2 t) (iblk m c 3 t) (iblk m c 4 t)
    | ⟨6, _⟩ => fun _ X => t.val = 7 → X = k0_pay3 (accs m c t.val t.isLt).1
    | ⟨7, _⟩ => fun _ X => t.val = 7 → X = k0_pay4 (accs m c t.val t.isLt).2
    | ⟨8, _⟩ => fun _ X => X = codesBlk (grid0.coords t) (iblk m c 0 t) (iblk m c 1 t) (iblk m c 2 t) (iblk m c 3 t) (iblk m c 4 t)
    | ⟨9, _⟩ => fun Y X => X = scaleStep (grid0.coords t) (iblk m c 0 t) (iblk m c 1 t) (iblk m c 2 t) (iblk m c 3 t) (iblk m c 4 t) Y
  Φ t := Inv m c t.val (Nat.le_of_lt_succ t.isLt)
  q _ := fullShare
  owed _ := 0

theorem A_eq (c : Dev nD) (w : Fin cfg0.W) : (rdat m c).A w = V m c (Pipeline.arrRef spec0 w) := by
  dsimp only [rdat]

theorem Phi_eq (c : Dev nD) (t : Fin (cfg0.N + 1)) : (rdat m c).Φ t = Inv m c t.val (Nat.le_of_lt_succ t.isLt) := by
  dsimp only [rdat]

/-! An input's buffer holds its block at every point. -/

theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold Pipeline.RDat.fetched Pipeline.RDat.blockOf iblk; rw [A_eq]; try rfl)
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold Pipeline.RDat.fetched Pipeline.RDat.blockOf iblk; rw [A_eq]; try rfl)
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold Pipeline.RDat.fetched Pipeline.RDat.blockOf iblk; rw [A_eq]; try rfl)
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold Pipeline.RDat.fetched Pipeline.RDat.blockOf iblk; rw [A_eq]; try rfl)
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold Pipeline.RDat.fetched Pipeline.RDat.blockOf iblk; rw [A_eq]; try rfl)

/-! ## The body obligation -/

set_option maxHeartbeats 4000000 in
/-- The body at any point. -/
theorem sound_body (c : Dev nD) (t : Fin cfg0.N) (y5 : Vec F S1x32x12288 .bf16) (y6 y7 : Vec F S1x12288 .f32) (y8 : Vec F S1x32x12288 .fp8e5m2) (y9 : Vec F S2x128 .f32) :
    iprop((rdat m c).Φ t.castSucc ∗ (rdat m c).owesAt () t.castSucc ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare y5 ∗ owns (c : Thread nD τ) (ms6 t) fullShare y6 ∗ owns (c : Thread nD τ) (ms7 t) fullShare y7 ∗ owns (c : Thread nD τ) (ms8 t) fullShare y8 ∗ owns (c : Thread nD τ) (ms9 t) fullShare y9)
      ⊢ wp frame (wpE (defs₀ (F := F)) Variants.none c none) Set.univ (bodyAt0 t) (fun _ =>
        iprop((rdat m c).Φ t.succ ∗ (rdat m c).owesAt () t.succ ∗ (∃ X, ⌜(rdat m c).after 0 t (iblk m c 0 t) X⌝ ∗ owns (c : Thread nD τ) (ms0 t) fullShare X) ∗ (∃ X, ⌜(rdat m c).after 1 t (iblk m c 1 t) X⌝ ∗ owns (c : Thread nD τ) (ms1 t) fullShare X) ∗ (∃ X, ⌜(rdat m c).after 2 t (iblk m c 2 t) X⌝ ∗ owns (c : Thread nD τ) (ms2 t) fullShare X) ∗ (∃ X, ⌜(rdat m c).after 3 t (iblk m c 3 t) X⌝ ∗ owns (c : Thread nD τ) (ms3 t) fullShare X) ∗ (∃ X, ⌜(rdat m c).after 4 t (iblk m c 4 t) X⌝ ∗ owns (c : Thread nD τ) (ms4 t) fullShare X) ∗ (∃ X, ⌜(rdat m c).after 5 t y5 X⌝ ∗ owns (c : Thread nD τ) (ms5 t) fullShare X) ∗ (∃ X, ⌜(rdat m c).after 6 t y6 X⌝ ∗ owns (c : Thread nD τ) (ms6 t) fullShare X) ∗ (∃ X, ⌜(rdat m c).after 7 t y7 X⌝ ∗ owns (c : Thread nD τ) (ms7 t) fullShare X) ∗ (∃ X, ⌜(rdat m c).after 8 t y8 X⌝ ∗ owns (c : Thread nD τ) (ms8 t) fullShare X) ∗ (∃ X, ⌜(rdat m c).after 9 t y9 X⌝ ∗ owns (c : Thread nD τ) (ms9 t) fullShare X))) := by
  unfold bodyAt0
  rw [show (rdat m c).owesAt () t.succ = (rdat m c).owesAt () t.castSucc from rfl, Phi_eq, Phi_eq]
  rw [show Inv m c t.succ.val (Nat.le_of_lt_succ t.succ.isLt) = Inv m c (t.val + 1) t.isLt from rfl, Inv_succ]
  refine (show _ ⊢ _ from sep_mono (Inv_open m c t (Nat.le_of_lt t.isLt)) .rfl).trans ?_
  iintro ⟨⟨%a0, %a1, %hacc, HS0, HS1, Hg⟩, Ho, H0, H1, H2, H3, H4, H5, H6, H7, H8, H9⟩
  rw [← hacc.1, ← hacc.2]
  by_cases h7 : t.val = 7
  · have hc0 : ¬ isFirst (grid0.coords t) := fun h => by have := (first_iff t).mp h; omega
    have hc1 : ¬ k0_cond2 (grid0.coords t) = 1#1 := fun h => by have := (clear_iff t).mp h; omega
    have hc2 : k0_cond3 (grid0.coords t) = 1#1 := (last_iff t).mpr h7
    iapply (run_D c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) y6 y7 y9 a0 a1 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; intro _; exact congrArg k0_pay3 hacc.1
    isplitl [H7]
    · iexists _; isplitr; swap; · iexact H7
      ipureintro; intro _; exact congrArg k0_pay4 hacc.2
    isplitl [H8]
    · iexists _; isplitr; swap; · iexact H8
      ipureintro; rfl
    iexists _; isplitr; swap; · iexact H9
    ipureintro; rfl
  · have hc2 : ¬ k0_cond3 (grid0.coords t) = 1#1 := fun h => h7 ((last_iff t).mp h)
    by_cases h4 : t.val % 4 = 0
    · have hc1 : k0_cond2 (grid0.coords t) = 1#1 := (clear_iff t).mpr h4
      by_cases h0 : t.val = 0
      · have hc0 : isFirst (grid0.coords t) := (first_iff t).mpr h0
        iapply (run_A c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) y6 y7 y9 a0 a1 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [H8]; · iexists _; iexact H8
        isplitl [H9]; · iexact H9
        isplitl [HS0]; · iexact HS0
        isplitl [HS1]; · iexact HS1
        iintro ⟨H0, H1, H2, H3, H4, H5, H6, H7, H8, H9, HS0, HS1⟩
        isplitl [HS0 HS1 Hg]
        · isplitl [HS0 HS1]
          · isplitl [HS0]
            · iexact HS0
            iexact HS1
          iexact Hg
        isplitl [Ho]; · iexact Ho
        isplitl [H0]
        · iexists _; isplitr; swap; · iexact H0
          ipureintro; rfl
        isplitl [H1]
        · iexists _; isplitr; swap; · iexact H1
          ipureintro; rfl
        isplitl [H2]
        · iexists _; isplitr; swap; · iexact H2
          ipureintro; rfl
        isplitl [H3]
        · iexists _; isplitr; swap; · iexact H3
          ipureintro; rfl
        isplitl [H4]
        · iexists _; isplitr; swap; · iexact H4
          ipureintro; rfl
        isplitl [H5]
        · iexists _; isplitr; swap; · iexact H5
          ipureintro; rfl
        isplitl [H6]
        · iexists _; isplitr; swap; · iexact H6
          ipureintro; intro h; exact absurd h h7
        isplitl [H7]
        · iexists _; isplitr; swap; · iexact H7
          ipureintro; intro h; exact absurd h h7
        isplitl [H8]
        · iexists _; isplitr; swap; · iexact H8
          ipureintro; rfl
        iexists _; isplitr; swap; · iexact H9
        ipureintro; rfl
      · have hc0 : ¬ isFirst (grid0.coords t) := fun h => h0 ((first_iff t).mp h)
        iapply (run_C c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) y6 y7 y9 a0 a1 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [H8]; · iexists _; iexact H8
        isplitl [H9]; · iexact H9
        isplitl [HS0]; · iexact HS0
        isplitl [HS1]; · iexact HS1
        iintro ⟨H0, H1, H2, H3, H4, H5, H6, H7, H8, H9, HS0, HS1⟩
        isplitl [HS0 HS1 Hg]
        · isplitl [HS0 HS1]
          · isplitl [HS0]
            · iexact HS0
            iexact HS1
          iexact Hg
        isplitl [Ho]; · iexact Ho
        isplitl [H0]
        · iexists _; isplitr; swap; · iexact H0
          ipureintro; rfl
        isplitl [H1]
        · iexists _; isplitr; swap; · iexact H1
          ipureintro; rfl
        isplitl [H2]
        · iexists _; isplitr; swap; · iexact H2
          ipureintro; rfl
        isplitl [H3]
        · iexists _; isplitr; swap; · iexact H3
          ipureintro; rfl
        isplitl [H4]
        · iexists _; isplitr; swap; · iexact H4
          ipureintro; rfl
        isplitl [H5]
        · iexists _; isplitr; swap; · iexact H5
          ipureintro; rfl
        isplitl [H6]
        · iexists _; isplitr; swap; · iexact H6
          ipureintro; intro h; exact absurd h h7
        isplitl [H7]
        · iexists _; isplitr; swap; · iexact H7
          ipureintro; intro h; exact absurd h h7
        isplitl [H8]
        · iexists _; isplitr; swap; · iexact H8
          ipureintro; rfl
        iexists _; isplitr; swap; · iexact H9
        ipureintro; rfl
    · have hc1 : ¬ k0_cond2 (grid0.coords t) = 1#1 := fun h => h4 ((clear_iff t).mp h)
      have hc0 : ¬ isFirst (grid0.coords t) := fun h => h4 (by have := (first_iff t).mp h; omega)
      iapply (run_B c (grid0.coords t) _ _ _ _ _ _ _ _ _ _ _ _ _ _ _ _ _ _ _ _ _ _ _ _ hc0 hc1 hc2 (iblk m c 0 t) (iblk m c 1 t) (iblk m c 2 t) (iblk m c 3 t) (iblk m c 4 t) y6 y7 y9 a0 a1 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]
      · iexists _; isplitr; swap; · iexact H0
        ipureintro; rfl
      isplitl [H1]
      · iexists _; isplitr; swap; · iexact H1
        ipureintro; rfl
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; intro h; exact absurd h h7
      isplitl [H7]
      · iexists _; isplitr; swap; · iexact H7
        ipureintro; intro h; exact absurd h h7
      isplitl [H8]
      · iexists _; isplitr; swap; · iexact H8
        ipureintro; rfl
      iexists _; isplitr; swap; · iexact H9
      ipureintro; rfl

theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : (rdat m c).BodyObligation (defs₀ (F := F)) Variants.none () Set.univ := fun t Y hY => by
  rw [bigSep_W0, bigSep_W0, defs₀_row, finds_0 m c t _ (hY 0), finds_1 m c t _ (hY 1), finds_2 m c t _ (hY 2), finds_3 m c t _ (hY 3), finds_4 m c t _ (hY 4)]
  exact triple_restated (sound_body m c t (Y 5) (Y 6) (Y 7) (Y 8) (Y 9)) rfl .rfl fun _ => .rfl

theorem hin (c : Dev nD) : Pipeline.ΦA spec0 c ⊢ (rdat m c).Φ 0 := by
  rw [Phi_eq]
  exact Idealize.SL.BI.Entails.refl _

theorem Inv_out (c : Dev nD) (n : ℕ) (h : n ≤ cfg0.N) : Inv m c n h ⊢ Pipeline.ΦA spec0 c := by
  cases n with
  | zero => exact Idealize.SL.BI.Entails.refl _
  | succ n =>
    rw [PhiA_eq]; unfold Inv
    iintro ⟨⟨HS0, HS1⟩, Hg⟩
    isplitl [HS0 HS1]
    · isplitl [HS0]
      · iexists _; iexact HS0
      iexists _; iexact HS1
    iexact Hg

theorem hout (c : Dev nD) : (rdat m c).Φ (Fin.last cfg0.N) ⊢ Pipeline.ΦA spec0 c := by
  rw [Phi_eq]; exact Inv_out m c _ _

theorem share_eq (c : Dev nD) (w : Fin cfg0.W) : (rdat m c).share w = fullShare := by
  unfold Pipeline.RDat.share; exact ite_self _

/-! ## The run and the frame -/

set_option backward.isDefEq.respectTransparency.types false in
/-- Every run ends with each array at something the write-backs may have left, and every counter at zero. -/
theorem run_main : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => body_obligation m c) (hshare := fun c w => share_eq m c w)
    (howed := fun _ _ => rfl) (V := V m) (hmain := hmain m Variants.none) (hA := A_eq m) (hin := hin m) (hout := hout m)

/-- The argument arrays end unchanged. -/
theorem args_kept (r : PUnit × MemSt nD τ sig (Elt F)) (h : Pipeline.RDat.FramePost (cfgs 0) (fun c => rdat m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    (Pipeline.RDat.FramePost.arr_in h c 2 rfl).trans ((A_eq m c 2).trans (V_main_arg2 m c)),
    ((h c).2 main_arg3 (Pipeline.mem_restRefs_of main_arg3 (by decide) (by decide))).trans (V_main_arg3 m c),
    (Pipeline.RDat.FramePost.arr_in h c 4 rfl).trans ((A_eq m c 4).trans (V_main_arg4 m c))⟩

/-- The frame: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m r h.1 c, h.2⟩) (run_main m ρ)

end Cert.KernelIdeal.Body

end
-- ==== Proof.Rows.lean ====
/-
  One row of the backward pass over the extended reals: the kernel's order of operations and the textbook order give the
  same gradient.
-/
module

public import Idealize.ShloMosaic.PureOps.Ideal.Laws
public import Mathlib.Data.EReal.Operations

@[expose] public section

set_option maxRecDepth 16384

noncomputable section

namespace Cert.Rows

open Idealize.ShloMosaic

/-- A factor that is nonnegative and finite comes out of a sum. -/
theorem mul_sum_of_nonneg {ι : Type*} (s : Finset ι) (f : ι → EReal) {c : EReal} (h0 : 0 ≤ c) (ht : c ≠ ⊤) :
    ∑ i ∈ s, c * f i = c * ∑ i ∈ s, f i := by
  classical
  induction s using Finset.induction_on with
  | empty => simp
  | insert a s ha ih => rw [Finset.sum_insert ha, Finset.sum_insert ha, ih, EReal.left_distrib_of_nonneg_of_ne_top h0 ht]

theorem mul_self_nonneg (x : EReal) : 0 ≤ x * x := by
  rcases le_total 0 x with h | h
  · exact mul_nonneg h h
  · rw [← neg_mul_neg]
    exact mul_nonneg (EReal.neg_nonneg.mpr h) (EReal.neg_nonneg.mpr h)

/-- A positive normal word's value from its exponent field and fraction. -/
theorem ofBits_normal (b : BitVec 32) (ex fr : ℕ) (h0 : (b.extractLsb' 31 1 == 1#1) = false) (h1 : (b.extractLsb' 23 8).toNat = ex)
    (h2 : (b.extractLsb' 0 23).toNat = fr) (h3 : ex ≠ 255) (h4 : ex ≠ 0) :
    Ideal.ofBits .f32 b = ((((2 ^ 23 + fr : ℕ) : ℝ) * (2 : ℝ) ^ ((ex : ℤ) - 127 - 23) : ℝ) : EReal) := by
  show Ideal.ieee 8 23 b = _
  unfold Ideal.ieee
  simp only [h0, h1, h2]
  rw [if_neg (by omega), if_neg h4]
  norm_num

/-- The added epsilon is a positive real. -/
theorem eps_pos : 0 < Ideal.ofBits .f32 0x358637BD#32 := by
  rw [ofBits_normal _ 107 407485 (by decide) (by decide) (by decide) (by decide) (by decide)]
  exact_mod_cast (by positivity : (0 : ℝ) < ((2 ^ 23 + 407485 : ℕ) : ℝ) * (2 : ℝ) ^ (((107 : ℕ) : ℤ) - 127 - 23))

/-- The reciprocal of the code format's largest value, as the programs round it, is nonnegative. -/
theorem inv_max_nonneg : 0 ≤ Ideal.ofBits .f32 0x37924925#32 := by
  rw [ofBits_normal _ 111 1198373 (by decide) (by decide) (by decide) (by decide) (by decide)]
  exact_mod_cast (by positivity : (0 : ℝ) ≤ ((2 ^ 23 + 1198373 : ℕ) : ℝ) * (2 : ℝ) ^ (((111 : ℕ) : ℤ) - 127 - 23))

/-- The inverse square root of a positive number is nonnegative and finite. -/
theorem rsqrt_nonneg {x : EReal} (h : 0 < x) : 0 ≤ Ideal.rsqrt x := by
  induction x with
  | bot => exact absurd h (by simp)
  | top => exact le_refl _
  | coe r =>
    have hr : (0 : ℝ) < r := by exact_mod_cast h
    show 0 ≤ (if r < 0 then (⊥ : EReal) else if r = 0 then ⊤ else ((Real.sqrt r)⁻¹ : ℝ))
    rw [if_neg (not_lt.mpr hr.le), if_neg hr.ne']
    exact_mod_cast (inv_nonneg.mpr (Real.sqrt_nonneg r))

theorem rsqrt_ne_top {x : EReal} (h : 0 < x) : Ideal.rsqrt x ≠ ⊤ := by
  induction x with
  | bot => exact absurd h (by simp)
  | top => exact EReal.zero_ne_top
  | coe r =>
    have hr : (0 : ℝ) < r := by exact_mod_cast h
    show (if r < 0 then (⊥ : EReal) else if r = 0 then ⊤ else ((Real.sqrt r)⁻¹ : ℝ)) ≠ ⊤
    rw [if_neg (not_lt.mpr hr.le), if_neg hr.ne']
    exact EReal.coe_ne_top _

/-- The row length's reciprocal. -/
abbrev invd : EReal := ((1 / 12288 : ℝ) : EReal)

/-- A row's inverse root mean square. -/
def rstd (rf : Fin 12288 → EReal) : EReal :=
  Ideal.rsqrt ((∑ l, rf l * rf l) * invd + Ideal.ofBits .f32 0x358637BD#32)

theorem arg_pos (rf : Fin 12288 → EReal) : 0 < (∑ l, rf l * rf l) * invd + Ideal.ofBits .f32 0x358637BD#32 := by
  refine lt_of_lt_of_le eps_pos ?_
  conv_lhs => rw [← zero_add (Ideal.ofBits .f32 0x358637BD#32)]
  refine add_le_add_left ?_ _
  refine mul_nonneg (Finset.sum_nonneg fun l _ => mul_self_nonneg _) ?_
  exact EReal.coe_nonneg.mpr (by norm_num)

theorem rstd_nonneg (rf : Fin 12288 → EReal) : 0 ≤ rstd rf := rsqrt_nonneg (arg_pos rf)
theorem rstd_ne_top (rf : Fin 12288 → EReal) : rstd rf ≠ ⊤ := rsqrt_ne_top (arg_pos rf)

/-- Dividing by the row length is multiplying by its reciprocal. -/
theorem div_d (x : EReal) : Ideal.div x (Ideal.ofBits .f32 0x46400000#32) = x * invd := by
  have h : Ideal.ofBits .f32 0x46400000#32 = ((12288 : ℝ) : EReal) := by
    rw [ofBits_normal _ 140 4194304 (by decide) (by decide) (by decide) (by decide) (by decide)]
    norm_num
  rw [h, Ideal.div_coe (by norm_num)]

/-- The gain's gradient, one row's term. -/
def h (g rf : Fin 12288 → EReal) (j : Fin 12288) : EReal := g j * (rf j * rstd rf)

/-- The gradient of the residual as the kernel orders it. -/
def dr (g rf gain : Fin 12288 → EReal) (j : Fin 12288) : EReal :=
  g j * gain j * rstd rf - rf j * ((rstd rf * rstd rf * ∑ l, h g rf l * gain l) * invd)

/-- The textbook order of the gradient of the residual. -/
theorem dr_eq (g rf gain : Fin 12288 → EReal) (j : Fin 12288) :
    rstd rf * (g j * gain j) - rf j * (rstd rf * (rstd rf * rstd rf)) * Ideal.div (∑ l, g l * gain l * rf l) (Ideal.ofBits .f32 0x46400000#32)
      = dr g rf gain j := by
  have e : ∑ l, h g rf l * gain l = rstd rf * ∑ l, g l * gain l * rf l := by
    rw [← mul_sum_of_nonneg _ _ (rstd_nonneg rf) (rstd_ne_top rf)]
    refine Finset.sum_congr rfl fun l _ => ?_
    unfold h; ac_rfl
  unfold dr
  rw [div_d, e]
  congr 1 <;> ac_rfl

/-- The textbook order of the gain gradient's term. -/
theorem h_eq (g rf : Fin 12288 → EReal) (j : Fin 12288) : g j * rf j * rstd rf = h g rf j := mul_assoc _ _ _

end Cert.Rows

end
-- ==== Proof.Exponent.lean ====
/-
  The quantiser's exponent: a search over the exponent field by comparisons finds the power of two above a nonnegative
  number, and a word with that field denotes that power.
-/
module

public import proofs.«01_k».proof.Proof.Rows

@[expose] public section

set_option maxRecDepth 16384

noncomputable section

namespace Cert.Exponent

open Idealize.ShloMosaic

/-- The float whose exponent field is the word and whose other bits are zero. -/
def fieldOf (w : BitVec 32) : EReal := Ideal.ofBits .f32 (IntOp.shli .vector w 23#32)

theorem shl_eq (n : ℕ) : IntOp.shli .vector (BitVec.ofNat 32 n) 23#32 = BitVec.ofNat 32 n <<< 23 := by
  rfl

/-- An exponent field below 255 and not zero denotes a power of two. -/
theorem fieldOf_pow (n : ℕ) (h1 : 1 ≤ n) (h2 : n ≤ 254) : fieldOf (BitVec.ofNat 32 n) = (((2 : ℝ) ^ ((n : ℤ) - 127) : ℝ) : EReal) := by
  unfold fieldOf
  rw [shl_eq]
  have hw : (BitVec.ofNat 32 n <<< 23).toNat = n * 2 ^ 23 := by
    simp [BitVec.toNat_shiftLeft, Nat.shiftLeft_eq]
    omega
  have e1 : ((BitVec.ofNat 32 n <<< 23).extractLsb' 31 1 == 1#1) = false := by
    rw [beq_eq_false_iff_ne]; intro hh
    have := congrArg BitVec.toNat hh
    rw [BitVec.extractLsb'_toNat, hw, Nat.shiftRight_eq_div_pow] at this
    simp at this; omega
  have e2 : ((BitVec.ofNat 32 n <<< 23).extractLsb' 23 8).toNat = n := by
    rw [BitVec.extractLsb'_toNat, hw, Nat.shiftRight_eq_div_pow]; omega
  have e3 : ((BitVec.ofNat 32 n <<< 23).extractLsb' 0 23).toNat = 0 := by
    rw [BitVec.extractLsb'_toNat, hw, Nat.shiftRight_eq_div_pow]; omega
  rw [Rows.ofBits_normal _ n 0 e1 e2 e3 (by omega) (by omega)]
  have e : (((2 ^ 23 + 0 : ℕ) : ℝ) * (2 : ℝ) ^ ((n : ℤ) - 127 - 23)) = (2 : ℝ) ^ ((n : ℤ) - 127) := by
    rw [show (n : ℤ) - 127 = 23 + ((n : ℤ) - 127 - 23) by ring, zpow_add₀ (by norm_num)]
    norm_num
  rw [e]

theorem fieldOf_zero : fieldOf 0#32 = 0 := Ideal.ofBits_zero_f32

theorem fieldOf_top : fieldOf 255#32 = ⊤ := by
  unfold fieldOf
  have : (IntOp.shli .vector 255#32 23#32 : BitVec 32) = 0x7F800000#32 := by decide
  rw [this]
  show Ideal.ieee 8 23 0x7F800000#32 = _
  unfold Ideal.ieee
  have e1 : ((0x7F800000#32).extractLsb' 23 8).toNat = 255 := by decide
  have e2 : ((0x7F800000#32).extractLsb' 0 23).toNat = 0 := by decide
  have e3 : ((0x7F800000#32).extractLsb' 31 1 == 1#1) = false := by decide
  simp only [e1, e2, e3]
  norm_num

/-- One step of the search: keep the field if the number is below the float with the field raised, else raise it. -/
def step (x : EReal) (b s : BitVec 32) : BitVec 32 :=
  Scalar.select (FloatOps.cmpf (F := Ideal) (φ := .f32) .olt x (fieldOf (IntOp.addi b s))) b (IntOp.addi b s)

/-- What the search keeps true: the field found so far is not above the number, and twice a step more is. -/
def Good (x : EReal) (b : BitVec 32) (s : ℕ) : Prop :=
  ∃ n : ℕ, b = BitVec.ofNat 32 n ∧ n + s ≤ 256 ∧ fieldOf b ≤ x ∧ (n + s = 256 ∨ x < fieldOf (BitVec.ofNat 32 (n + s)))

theorem step_good (x : EReal) (b : BitVec 32) (s : ℕ) (hs : 0 < s) (h : Good x b (s + s)) : Good x (step x b (BitVec.ofNat 32 s)) s := by
  obtain ⟨n, rfl, hn, hx, hy⟩ := h
  have ha : IntOp.addi (BitVec.ofNat 32 n) (BitVec.ofNat 32 s) = BitVec.ofNat 32 (n + s) := (BitVec.ofNat_add n s).symm
  unfold step
  rw [ha]
  by_cases hc : x < fieldOf (BitVec.ofNat 32 (n + s))
  · have : FloatOps.cmpf (F := Ideal) (φ := .f32) .olt x (fieldOf (BitVec.ofNat 32 (n + s))) = 1#1 := by
      show Ideal.cmp .olt _ _ = _
      simp [Ideal.cmp, hc]
    rw [this]
    exact ⟨n, rfl, by omega, hx, .inr hc⟩
  · have : FloatOps.cmpf (F := Ideal) (φ := .f32) .olt x (fieldOf (BitVec.ofNat 32 (n + s))) = 0#1 := by
      show Ideal.cmp .olt _ _ = _
      simp [Ideal.cmp, hc]
    rw [this]
    refine ⟨n + s, rfl, by omega, not_lt.mp hc, ?_⟩
    rw [show n + s + s = n + (s + s) by omega]
    exact hy

/-- The search over all eight bits of the field. -/
def search (x : EReal) : BitVec 32 :=
  step x (step x (step x (step x (step x (step x (step x (step x 0#32 128#32) 64#32) 32#32) 16#32) 8#32) 4#32) 2#32) 1#32

theorem search_good (x : EReal) (h : 0 ≤ x) : Good x (search x) 1 := by
  have h0 : Good x 0#32 (128 + 128) := ⟨0, rfl, by omega, by rw [fieldOf_zero]; exact h, .inl rfl⟩
  exact step_good x _ 1 (by omega) (step_good x _ 2 (by omega) (step_good x _ 4 (by omega) (step_good x _ 8 (by omega)
    (step_good x _ 16 (by omega) (step_good x _ 32 (by omega) (step_good x _ 64 (by omega) (step_good x _ 128 (by omega) h0)))))))

/-- The exponent's word: the field capped and unbiased, zero for a zero field. -/
def expo (x : EReal) : BitVec 32 :=
  Scalar.select (IntOp.cmpi .eq (IntOp.minsi (search x) 239#32) 0#32) 0#32 (IntOp.subi (IntOp.minsi (search x) 239#32) 126#32)

/-- The exponent by the logarithm, as a number. -/
def expR (x : EReal) : EReal :=
  if x < Ideal.ofBits .f32 0x00800000#32 then 0
  else min (Ideal.liftRound Int.floor (Ideal.div (Ideal.log x) (Ideal.log (Ideal.ofBits .f32 0x40000000#32))) + 1) (Ideal.ofBits .f32 0x42E20000#32)

theorem log_two : Ideal.log (Ideal.ofBits .f32 0x40000000#32) = ((Real.log 2 : ℝ) : EReal) := by
  have h : Ideal.ofBits .f32 0x40000000#32 = ((2 : ℝ) : EReal) := by
    rw [Rows.ofBits_normal _ 128 0 (by decide) (by decide) (by decide) (by decide) (by decide)]
    norm_num
  rw [h]
  show (if (2 : ℝ) ≤ 0 then (⊥ : EReal) else (Real.log 2 : ℝ)) = _
  rw [if_neg (by norm_num)]

theorem cap_eq : Ideal.ofBits .f32 0x42E20000#32 = ((113 : ℝ) : EReal) := by
  rw [Rows.ofBits_normal _ 133 6422528 (by decide) (by decide) (by decide) (by decide) (by decide)]
  norm_num

theorem tiny_eq : Ideal.ofBits .f32 0x00800000#32 = fieldOf 1#32 := rfl

/-- The floor of the base-two logarithm of a number between two powers of two. -/
theorem floor_log {r : ℝ} {k : ℤ} (h1 : (2 : ℝ) ^ k ≤ r) : k ≤ ⌊Real.log r * (1 / Real.log 2)⌋ := by
  have hp : (0 : ℝ) < 2 ^ k := by positivity
  have hr : 0 < r := lt_of_lt_of_le hp h1
  rw [Int.le_floor, mul_one_div]
  rw [le_div_iff₀ (Real.log_pos (by norm_num)), ← Real.log_zpow]
  exact Real.log_le_log hp h1

theorem floor_log_lt {r : ℝ} {k : ℤ} (hr : 0 < r) (h2 : r < (2 : ℝ) ^ k) : ⌊Real.log r * (1 / Real.log 2)⌋ < k := by
  rw [Int.floor_lt, mul_one_div]
  rw [div_lt_iff₀ (Real.log_pos (by norm_num)), ← Real.log_zpow]
  exact Real.log_lt_log hr h2

/-- The search's exponent and the logarithm's are one integer, between -125 and 113. -/
theorem expo_eq (x : EReal) (h : 0 ≤ x) :
    ∃ k : ℤ, -125 ≤ k ∧ k ≤ 113 ∧ expo x = BitVec.ofInt 32 k ∧ expR x = ((k : ℝ) : EReal) := by
  obtain ⟨n, hb, hn, hx, hy⟩ := search_good x h
  have hmin : IntOp.minsi (search x) 239#32 = BitVec.ofNat 32 (min n 239) := by
    rw [hb]; revert hn; clear * -; intro hn
    have : ∀ n : Fin 256, IntOp.minsi (BitVec.ofNat 32 n.val) 239#32 = BitVec.ofNat 32 (min n.val 239) := by decide +kernel
    exact this ⟨n, by omega⟩
  rcases Nat.eq_zero_or_pos n with rfl | hpos
  · -- the field is zero: the number is below the least normal
    have hlt : x < fieldOf 1#32 := by
      rcases hy with hy | hy
      · omega
      · exact hy
    refine ⟨0, by omega, by omega, ?_, ?_⟩
    · unfold expo; rw [hmin]; decide
    · unfold expR; rw [tiny_eq, if_pos hlt]; simp
  · have hsel : expo x = BitVec.ofInt 32 ((min n 239 : ℕ) - 126 : ℤ) := by
      unfold expo; rw [hmin]; revert hn hpos; clear * -; intro hn hpos
      have : ∀ n : Fin 256, 0 < n.val → Scalar.select (IntOp.cmpi .eq (BitVec.ofNat 32 (min n.val 239)) 0#32) 0#32 (IntOp.subi (BitVec.ofNat 32 (min n.val 239)) 126#32) = BitVec.ofInt 32 ((min n.val 239 : ℕ) - 126 : ℤ) := by decide +kernel
      exact this ⟨n, by omega⟩ hpos
    -- the number is at least the power of two with the capped field
    have hge : ((((2 : ℝ) ^ (((min n 239 : ℕ) : ℤ) - 127)) : ℝ) : EReal) ≤ x := by
      by_cases h255 : n = 255
      · have : x = ⊤ := by
          rw [hb, h255, fieldOf_top] at hx; exact top_le_iff.mp hx
        rw [this]; exact le_top
      · refine le_trans ?_ hx
        rw [hb, fieldOf_pow n (by omega) (by omega)]
        have : (2 : ℝ) ^ (((min n 239 : ℕ) : ℤ) - 127) ≤ (2 : ℝ) ^ ((n : ℤ) - 127) := zpow_le_zpow_right₀ (by norm_num) (by omega)
        exact_mod_cast this
    have hnot : ¬ x < Ideal.ofBits .f32 0x00800000#32 := by
      rw [tiny_eq, not_lt]
      refine le_trans ?_ hge
      rw [fieldOf_pow 1 (by omega) (by omega)]
      have : (2 : ℝ) ^ (((1 : ℕ) : ℤ) - 127) ≤ (2 : ℝ) ^ (((min n 239 : ℕ) : ℤ) - 127) := zpow_le_zpow_right₀ (by norm_num) (by omega)
      exact_mod_cast this
    refine ⟨((min n 239 : ℕ) : ℤ) - 126, by omega, by omega, hsel, ?_⟩
    unfold expR
    rw [if_neg hnot, log_two, Ideal.div_coe (Real.log_pos (by norm_num)).ne', cap_eq]
    induction x with
    | bot => exact absurd (lt_of_lt_of_le (EReal.bot_lt_coe _) hge) (lt_irrefl _)
    | top =>
      have h239 : min n 239 = 239 := by
        by_contra hne
        have h1 : n ≤ 238 := by omega
        rcases hy with hy | hy
        · omega
        · exact absurd hy (not_lt.mpr le_top)
      rw [h239]
      have hp : (0 : ℝ) < 1 / Real.log 2 := one_div_pos.mpr (Real.log_pos (by norm_num))
      have : Ideal.log ⊤ * ((1 / Real.log 2 : ℝ) : EReal) = ⊤ := EReal.top_mul_coe_of_pos hp
      rw [this, Ideal.liftRound_top, show (⊤ : EReal) + 1 = ⊤ from EReal.top_add_coe 1, min_eq_right le_top]
      norm_num
    | coe r =>
      have hge' : (2 : ℝ) ^ (((min n 239 : ℕ) : ℤ) - 127) ≤ r := by exact_mod_cast hge
      have hr : 0 < r := lt_of_lt_of_le (by positivity) hge'
      have hl : Ideal.log (r : EReal) = ((Real.log r : ℝ) : EReal) := by
        show (if r ≤ 0 then (⊥ : EReal) else (Real.log r : ℝ)) = _
        rw [if_neg (not_le.mpr hr)]
      rw [hl, ← EReal.coe_mul, Ideal.liftRound_coe]
      have hf := floor_log hge'
      have key : min ((⌊Real.log r * (1 / Real.log 2)⌋ : ℝ) + 1) 113 = (((((min n 239 : ℕ) : ℤ) - 126 : ℤ)) : ℝ) := by
        by_cases hbig : 239 ≤ n
        · have h239 : min n 239 = 239 := by omega
          rw [h239] at hf ⊢
          have : (112 : ℝ) ≤ (⌊Real.log r * (1 / Real.log 2)⌋ : ℝ) := by exact_mod_cast hf
          rw [min_eq_right (by linarith)]; norm_num
        · have hlt : r < (2 : ℝ) ^ ((n : ℤ) - 126) := by
            rcases hy with hy | hy
            · omega
            · rw [fieldOf_pow (n + 1) (by omega) (by omega)] at hy
              have : r < (2 : ℝ) ^ (((n + 1 : ℕ) : ℤ) - 127) := by exact_mod_cast hy
              rwa [show (((n + 1 : ℕ) : ℤ) - 127) = (n : ℤ) - 126 by push_cast; ring] at this
          have hf2 := floor_log_lt hr hlt
          have hm : min n 239 = n := by omega
          rw [hm] at hf ⊢
          have : ⌊Real.log r * (1 / Real.log 2)⌋ = (n : ℤ) - 127 := by omega
          rw [this]
          have hle : ((n : ℝ)) ≤ 238 := by exact_mod_cast (by omega : n ≤ 238)
          push_cast
          rw [min_eq_left (by linarith)]; ring
      rw [← key, EReal.coe_strictMono.monotone.map_min, EReal.coe_add]
      rfl

/-- The word with a biased exponent denotes two to that exponent. -/
theorem pow_of_int (k : ℤ) (h1 : -126 ≤ k) (h2 : k ≤ 127) :
    Ideal.ofBits .f32 (IntOp.shli .vector (IntOp.addi (BitVec.ofInt 32 k) 127#32) 23#32) = Ideal.exp2 ((k : ℝ) : EReal) := by
  obtain ⟨n, rfl⟩ : ∃ n : ℕ, k = (n : ℤ) - 127 := ⟨(k + 127).toNat, by omega⟩
  have hw : IntOp.addi (BitVec.ofInt 32 ((n : ℤ) - 127)) 127#32 = BitVec.ofNat 32 n := by
    have : ∀ n : Fin 256, IntOp.addi (BitVec.ofInt 32 ((n.val : ℤ) - 127)) 127#32 = BitVec.ofNat 32 n.val := by decide +kernel
    exact this ⟨n, by omega⟩
  rw [hw]
  refine (fieldOf_pow n (by omega) (by omega)).trans ?_
  show _ = ((Real.rpow 2 ((((n : ℤ) - 127 : ℤ)) : ℝ) : ℝ) : EReal)
  congr 1
  exact (Real.rpow_intCast 2 _).symm

/-- The word of a negated exponent. -/
theorem neg_word (k : ℤ) (h1 : -125 ≤ k) (h2 : k ≤ 113) : IntOp.subi 0#32 (BitVec.ofInt 32 k) = BitVec.ofInt 32 (-k) := by
  obtain ⟨n, rfl⟩ : ∃ n : ℕ, k = (n : ℤ) - 127 := ⟨(k + 127).toNat, by omega⟩
  have : ∀ n : Fin 256, IntOp.subi 0#32 (BitVec.ofInt 32 ((n.val : ℤ) - 127)) = BitVec.ofInt 32 (-((n.val : ℤ) - 127)) := by decide +kernel
  exact this ⟨n, by omega⟩

/-- The scale: two to the exponent. -/
theorem scale_eq (x : EReal) (h : 0 ≤ x) :
    Ideal.ofBits .f32 (IntOp.shli .vector (IntOp.addi (expo x) 127#32) 23#32) = Ideal.exp2 (expR x) := by
  obtain ⟨k, h1, h2, he, hr⟩ := expo_eq x h
  rw [he, hr, pow_of_int k (by omega) (by omega)]

/-- The scale's inverse: two to the negated exponent. -/
theorem inv_eq (x : EReal) (h : 0 ≤ x) :
    Ideal.ofBits .f32 (IntOp.shli .vector (IntOp.addi (IntOp.subi 0#32 (expo x)) 127#32) 23#32) = Ideal.exp2 (0 - expR x) := by
  obtain ⟨k, h1, h2, he, hr⟩ := expo_eq x h
  rw [he, hr, neg_word k h1 h2, pow_of_int (-k) (by omega) (by omega), zero_sub]
  push_cast
  rfl

end Cert.Exponent

end
-- ==== Proof.Spec.lean ====
/-
  The results as functions of the arguments, over the extended reals: token by token the gradient and its code, and the
  sums over all the tokens.
-/
module

public import proofs.«01_k».proof.Proof.Exponent
public import Idealize.ShloMosaic.Lib.Pointwise

@[expose] public section

set_option maxRecDepth 16384

noncomputable section

namespace Cert.Spec

open Idealize.ShloMosaic

/-! ## The quantiser of one row -/

/-- The row's largest magnitude over the code format's largest value. -/
def ratio (v : Fin 12288 → EReal) : EReal :=
  Finset.univ.fold max (⊥ : EReal) (fun x => FloatOps.absf (F := Ideal) (φ := .f32) (v x)) * Ideal.ofBits .f32 0x37924925#32

/-- The row's scale: the power of two above the ratio. -/
def scaleOf (v : Fin 12288 → EReal) : EReal := Ideal.exp2 (Exponent.expR (ratio v))

/-- One element's code, clipped to the code format's range. -/
def codeOf (v : Fin 12288 → EReal) (j : Fin 12288) : EReal :=
  min (Ideal.ofBits .f32 0x47600000#32) (max (Ideal.ofBits .f32 0xC7600000#32) (v j * Ideal.exp2 (0 - Exponent.expR (ratio v))))

theorem bot_f32 : Ideal.ofBits .f32 0xFF800000#32 = ⊥ := by
  show Ideal.ieee 8 23 0xFF800000#32 = _
  unfold Ideal.ieee
  have e1 : ((0xFF800000#32).extractLsb' 23 8).toNat = 255 := by decide
  have e2 : ((0xFF800000#32).extractLsb' 0 23).toNat = 0 := by decide
  have e3 : ((0xFF800000#32).extractLsb' 31 1 == 1#1) = true := by decide
  simp only [e1, e2, e3]
  norm_num

theorem bot_bf16 : Ideal.ofBits .bf16 0xFF80#16 = ⊥ := by
  show Ideal.ieee 8 7 0xFF80#16 = _
  unfold Ideal.ieee
  have e1 : ((0xFF80#16).extractLsb' 7 8).toNat = 255 := by decide
  have e2 : ((0xFF80#16).extractLsb' 0 7).toNat = 0 := by decide
  have e3 : ((0xFF80#16).extractLsb' 15 1 == 1#1) = true := by decide
  simp only [e1, e2, e3]
  norm_num

theorem abs_nonneg (a : EReal) : 0 ≤ max a (-a) := by
  rcases le_total 0 a with h | h
  · exact le_max_of_le_left h
  · exact le_max_of_le_right (EReal.neg_nonneg.mpr h)

theorem ratio_nonneg (v : Fin 12288 → EReal) : 0 ≤ ratio v := by
  refine mul_nonneg ?_ Rows.inv_max_nonneg
  rw [Finset.le_fold_max]
  exact .inr ⟨0, Finset.mem_univ _, abs_nonneg _⟩

/-! ## The results -/

/-- The arguments, by coordinates: the partial sums and their scales by shard, batch and token, the residual, the gain, the
    residual's incoming gradient. -/
structure Args where
  p : Fin 4 → Fin 2 → Fin 128 → Fin 12288 → EReal
  ps : Fin 4 → Fin 2 → Fin 128 → EReal
  r : Fin 2 → Fin 128 → Fin 12288 → EReal
  gain : Fin 12288 → EReal
  res : Fin 2 → Fin 128 → Fin 12288 → EReal

/-- The arguments' coordinates from their arrays. -/
def args (a0 : (⟨4, ![4, 2, 128, 12288]⟩ : Shape).Idx → EReal) (a1 : (⟨3, ![4, 2, 128]⟩ : Shape).Idx → EReal)
    (a2 : (⟨3, ![2, 128, 12288]⟩ : Shape).Idx → EReal) (a3 : (⟨1, ![12288]⟩ : Shape).Idx → EReal)
    (a4 : (⟨3, ![2, 128, 12288]⟩ : Shape).Idx → EReal) : Args where
  p s b t j := a0 (ix4 s b t j)
  ps s b t := a1 (ix3 s b t)
  r b t j := a2 (ix3 b t j)
  gain j := a3 (ix1 j)
  res b t j := a4 (ix3 b t j)

variable (a : Args)

/-- The gradient of the normalised output, summed over the shards. -/
def g (b : Fin 2) (t : Fin 128) (j : Fin 12288) : EReal := ∑ s, a.p s b t j * a.ps s b t

/-- A token's term of the gain's gradient. -/
def hTok (b : Fin 2) (t : Fin 128) (j : Fin 12288) : EReal := Rows.h (g a b t) (a.r b t) j

/-- The gradient with respect to the input. -/
def gx (b : Fin 2) (t : Fin 128) (j : Fin 12288) : EReal := Rows.dr (g a b t) (a.r b t) a.gain j + a.res b t j

/-- The gain's gradient. -/
def dgain (j : Fin 12288) : EReal := ∑ b, ∑ t, hTok a b t j

/-- The bias's gradient. -/
def dbias (j : Fin 12288) : EReal := ∑ b, ∑ t, gx a b t j

/-- The codes. -/
def code (b : Fin 2) (t : Fin 128) (j : Fin 12288) : EReal := codeOf (gx a b t) j

/-- The codes' scales. -/
def scale (b : Fin 2) (t : Fin 128) : EReal := scaleOf (gx a b t)

end Cert.Spec

end
-- ==== Proof.KernelIdeal.Pay.lean ====
/-
  The kernel's block functions over the extended reals, element by element.
-/
module

public import proofs.«01_k».proof.Proof.KernelIdeal.Fns
public import proofs.«01_k».proof.Proof.Spec

@[expose] public section

set_option maxRecDepth 16384

noncomputable section

namespace Cert.KernelIdeal.Body

open Idealize.ShloMosaic Idealize.ShloMosaic.TcCoe
open Idealize.SL Idealize.SL.Sem
open Idealize.ShloMosaic.VecWindow (window put)
open Cert.KernelIdeal.Gen

/-! ## The selection matrix -/

/-- A roll's amount, reduced modulo the number of lanes. -/
def roll (v : BitVec 32) : BitVec 32 :=
  Scalar.select (Scalar.andi (Scalar.xori (Scalar.cmpi .slt (Scalar.remsi v (Scalar.select (Scalar.cmpi .eq 128#32 0#32) 1#32 128#32)) 0#32) (Scalar.cmpi .slt (Scalar.select (Scalar.cmpi .eq 128#32 0#32) 1#32 128#32) 0#32)) (Scalar.cmpi .ne (Scalar.remsi v (Scalar.select (Scalar.cmpi .eq 128#32 0#32) 1#32 128#32)) 0#32))
    (Scalar.addi (Scalar.remsi v (Scalar.select (Scalar.cmpi .eq 128#32 0#32) 1#32 128#32)) (Scalar.select (Scalar.cmpi .eq 128#32 0#32) 1#32 128#32))
    (Scalar.remsi v (Scalar.select (Scalar.cmpi .eq 128#32 0#32) 1#32 128#32))

/-- The amount a shard's scales are rolled by, before the reduction. -/
def amount (s w : BitVec 32) : BitVec 32 := Scalar.addi (Scalar.subi s (Scalar.muli w 32#32)) 128#32

theorem roll_amount : ∀ k s : Fin 4, (roll (amount (BitVec.ofNat 32 (s.val * 32)) (BitVec.ofNat 32 k.val))).toNat % 128 = (s.val * 32 + 128 - k.val * 32) % 128 := by
  decide +kernel

/-- The entry of an array rolled by an amount. -/
def rolled (v : BitVec 32) (l : Fin 128) : Fin 128 := ⟨(l.val + 128 - v.toNat % 128) % 128, Nat.mod_lt _ (by omega)⟩

/-- A lane compared with a row moved down by a constant. -/
theorem lane_eq (l q c : ℕ) (hl : l < 256) (hq : q < 128) (hc : c < 128) :
    IntOp.cmpi .eq (BitVec.ofNat 32 l) (IntOp.addi (BitVec.ofNat 32 q) (BitVec.ofNat 32 c)) = BitVec.ofBool (decide (l = q + c)) := by
  have h : IntOp.addi (BitVec.ofNat 32 q) (BitVec.ofNat 32 c) = BitVec.ofNat 32 (q + c) := (BitVec.ofNat_add q c).symm
  rw [h]
  show BitVec.ofBool (BitVec.ofNat 32 l == BitVec.ofNat 32 (q + c)) = _
  congr 1
  rw [Bool.eq_iff_iff]
  simp only [beq_iff_eq, decide_eq_true_eq]
  refine ⟨fun e => ?_, fun e => by rw [e]⟩
  have := congrArg BitVec.toNat e
  simp only [BitVec.toNat_ofNat] at this
  omega

theorem select_ofBool {α : Type} (p : Prop) [Decidable p] (a b : α) : Scalar.select (BitVec.ofBool (decide p)) a b = if p then a else b := by
  by_cases h : p <;> simp [h, Scalar.select]

section Sel

variable (w : BitVec 32) (w0 w1 w2 w3 : Vec Ideal S1x1x128 .f32) (q : Fin 32) (l : Fin 128)

theorem sel0 : (k0_pay6 (F := Ideal) w0) (ix2 q l) = w0 (ix3 0 0 l) := by
  pointwise [k0_pay6]

theorem sel1 (x : FVec Ideal S32x128 .f32) (v : BitVec 32) : k0_pay7 (F := Ideal) w lane row k0_pay5 x v 128#32 0#32 w1 (ix2 q l)
    = Scalar.select (IntOp.cmpi .eq (BitVec.ofNat 32 l.val) (IntOp.addi (BitVec.ofNat 32 q.val) 32#32)) (w1 (ix3 0 0 (rolled (roll (amount 32#32 w)) l)))
      (Scalar.select (IntOp.cmpi .eq (BitVec.ofNat 32 l.val) (IntOp.addi (BitVec.ofNat 32 q.val) 0#32)) (x (ix2 q (rolled (roll v) l))) 0) := by
  pointwise [k0_pay7, k0_pay5, lane, row]
  try rfl

theorem sel2 (x : FVec Ideal S32x128 .f32) : k0_pay9 (F := Ideal) w lane row x (k0_pay8 w2) (ix2 q l)
    = Scalar.select (IntOp.cmpi .eq (BitVec.ofNat 32 l.val) (IntOp.addi (BitVec.ofNat 32 q.val) 64#32)) (w2 (ix3 0 0 (rolled (roll (amount 64#32 w)) l)))
      (x (ix2 q l)) := by
  pointwise [k0_pay9, k0_pay8, lane, row]
  try rfl

theorem sel3 : k0_pay10 (F := Ideal) w w3 (ix2 q l) = w3 (ix3 0 0 (rolled (roll (amount 96#32 w)) l)) := by
  pointwise [k0_pay10]
  try rfl

theorem pay11 (S T : FVec Ideal S32x128 .f32) (x0 : Vec Ideal S4x1x32x12288 .fp8e5m2) (j : Fin 12288) :
    k0_pay11 (F := Ideal) lane row S T x0 (ix2 q j)
      = ∑ x : Fin 128, Scalar.select (IntOp.cmpi .eq (BitVec.ofNat 32 x.val) (IntOp.addi (BitVec.ofNat 32 q.val) 96#32)) (T (ix2 q x)) (S (ix2 q x))
          * x0 (ix4 ⟨x.val / 32, by omega⟩ 0 ⟨x.val % 32, by omega⟩ j) := by
  pointwise [k0_pay11, lane, row]

end Sel

/-! ## The rows -/

/-- The kernel's factor for a mean over a row. -/
abbrev invd : EReal := (Named.named κ "inv_d" 0x38AAAAAB#32 : Ideal .f32)

/-- It is the reciprocal of the row length. -/
theorem invd_eq : invd = Rows.invd := by
  have h := IdealRules.named_const.ideal_named_scalar (φ := .f32) κ "inv_d" 0x38AAAAAB#32 _ rfl
  refine h.trans ?_
  norm_num [Rows.invd]

/-- One step of the exponent search over every row. -/
def stepV (ra : FVec Ideal S32x1 .f32) (b : IVec S32x1 32) (s : BitVec 32) : IVec S32x1 32 :=
  select (cmpf .olt ra (bitcastToFloat .f32 (shli (addi b (broadcast S32x1 s)) (broadcast S32x1 23#32)))) b (addi b (broadcast S32x1 s))

theorem stepV_apply (ra : FVec Ideal S32x1 .f32) (b : IVec S32x1 32) (s : BitVec 32) (i : S32x1.Idx) : stepV ra b s i = Exponent.step (ra i) (b i) s := rfl

section Blocks

variable (S T : FVec Ideal S32x128 .f32) (x0 : Vec Ideal S4x1x32x12288 .fp8e5m2) (x2 : Vec Ideal S1x32x12288 .bf16) (x3 : Vec Ideal S1x12288 .f32)
  (x4 : Vec Ideal S1x32x12288 .bf16) (v : FVec Ideal S32x12288 .f32) (q : Fin 32) (j : Fin 12288) (r : Fin 8)

theorem pay13 : k0_pay13 (F := Ideal) x2 (ix2 q 0)
    = Ideal.rsqrt ((∑ x : Fin 12288, x2 (ix3 0 q x) * x2 (ix3 0 q x)) * invd + Ideal.ofBits .f32 0x358637BD#32) := by
  pointwise [k0_pay13, k0_pay12]

theorem pay14 : k0_pay14 (F := Ideal) lane row S T x0 x2 (ix2 q j)
    = k0_pay11 (F := Ideal) lane row S T x0 (ix2 q j) * (x2 (ix3 0 q j) * k0_pay13 (F := Ideal) x2 (ix2 q 0)) := by
  pointwise [k0_pay14, k0_pay12]

theorem pay15 : k0_pay15 (F := Ideal) lane row S T x0 x2 x3 (ix2 q j)
    = k0_pay11 (F := Ideal) lane row S T x0 (ix2 q j) * x3 (ix2 0 j) * k0_pay13 (F := Ideal) x2 (ix2 q 0)
      - x2 (ix3 0 q j) * ((k0_pay13 (F := Ideal) x2 (ix2 q 0) * k0_pay13 (F := Ideal) x2 (ix2 q 0)
        * ∑ x : Fin 12288, k0_pay14 (F := Ideal) lane row S T x0 x2 (ix2 q x) * x3 (ix2 0 x)) * invd) := by
  pointwise [k0_pay15, k0_pay12]

theorem pay18 : k0_pay18 (F := Ideal) v x4 (ix3 0 q j) = v (ix2 q j) + x4 (ix3 0 q j) := by
  pointwise [k0_pay18, k0_pay17, k0_pay16]

theorem pay24 : k0_pay24 (F := Ideal) v x4 (ix2 q 0)
    = Finset.univ.fold max (Ideal.ofBits .bf16 0xFF80#16) (fun x : Fin 12288 => FloatOps.absf (F := Ideal) (φ := .f32) (v (ix2 q x) + x4 (ix3 0 q x))) * Ideal.ofBits .f32 0x37924925#32 := by
  pointwise [k0_pay24, k0_pay17, k0_pay16]
  rfl

theorem pay22 (a : Vec Ideal S8x12288 .f32) : k0_pay22 (F := Ideal) v a (ix2 r j)
    = a (ix2 r j) + ∑ x : Fin 4, v (ix2 ⟨x.val * 8 + r.val, by omega⟩ j) := by
  pointwise [k0_pay22]

theorem pay23 (a : Vec Ideal S8x12288 .f32) : k0_pay23 (F := Ideal) v x4 a (ix2 r j)
    = a (ix2 r j) + ∑ x : Fin 4, (v (ix2 ⟨x.val * 8 + r.val, by omega⟩ j) + x4 (ix3 0 ⟨x.val * 8 + r.val, by omega⟩ j)) := by
  pointwise [k0_pay23, k0_pay16]

theorem pay3 (a : Vec Ideal S8x12288 .f32) : k0_pay3 (F := Ideal) a (ix2 0 j) = ∑ r : Fin 8, a (ix2 r j) := by
  pointwise [k0_pay3]

theorem pay4 (a : Vec Ideal S8x12288 .f32) : k0_pay4 (F := Ideal) a (ix2 0 j) = ∑ r : Fin 8, a (ix2 r j) := by
  pointwise [k0_pay4]

theorem pay19 : (k0_pay19 (F := Ideal)) (ix2 r j) = 0 := by
  pointwise [k0_pay19]

theorem pay20 : (k0_pay20 (F := Ideal)) (ix2 r j) = 0 := by
  pointwise [k0_pay20]

theorem pay21 (l : Fin 128) : (k0_pay21 (F := Ideal)) (ix2 0 l) = 0 := by
  pointwise [k0_pay21]

theorem pay2 (w : BitVec 32) (e : IVec S32x1 32) (y : Vec Ideal S1x128 .f32) (l : Fin 128) : k0_pay2 (F := Ideal) w lane row e y (ix2 0 l)
    = y (ix2 0 l) + ∑ x : Fin 32, Scalar.select (IntOp.cmpi .eq (BitVec.ofNat 32 l.val) (IntOp.addi (BitVec.ofNat 32 x.val) (Scalar.muli w 32#32)))
        (Ideal.ofBits .f32 (IntOp.shli .vector (IntOp.addi (e (ix2 x 0)) 127#32) 23#32)) 0 := by
  pointwise [k0_pay2, lane, row]

theorem pay28 (ra : FVec Ideal S32x1 .f32) (b : IVec S32x1 32) : k0_pay1 (F := Ideal) (k0_pay28 (k0_pay17 v x4) ra b 4#32) (ix3 0 q j)
    = min (Ideal.ofBits .f32 0x47600000#32) (max (Ideal.ofBits .f32 0xC7600000#32) ((v (ix2 q j) + x4 (ix3 0 q j))
        * Ideal.ofBits .f32 (IntOp.shli .vector (IntOp.addi (IntOp.subi 0#32 (k0_pay27 ra b 4#32 (ix2 q 0))) 127#32) 23#32))) := by
  pointwise [k0_pay1, k0_pay28, k0_pay17, k0_pay16]

theorem pay26_eq (ra : FVec Ideal S32x1 .f32) (b : IVec S32x1 32) :
    k0_pay26 (F := Ideal) ra b 128#32 = stepV ra (stepV ra (stepV ra (stepV ra (stepV ra b 128#32) 64#32) 32#32) 16#32) 8#32 := by
  unfold stepV k0_pay26
  rfl

theorem pay27_apply (ra : FVec Ideal S32x1 .f32) (b : IVec S32x1 32) (i : S32x1.Idx) :
    k0_pay27 (F := Ideal) ra b 4#32 i
      = Scalar.select (IntOp.cmpi .eq (IntOp.minsi (stepV ra (stepV ra (stepV ra b 4#32) 2#32) 1#32 i) 239#32) 0#32) 0#32
          (IntOp.subi (IntOp.minsi (stepV ra (stepV ra (stepV ra b 4#32) 2#32) 1#32 i) 239#32) 126#32) := by
  unfold stepV k0_pay27
  rfl

/-- Each row's exponent is the search's. -/
theorem pay27 (ra : FVec Ideal S32x1 .f32) (i : S32x1.Idx) : k0_pay27 (F := Ideal) ra (k0_pay26 ra k0_pay25 128#32) 4#32 i = Exponent.expo (ra i) := by
  rw [pay27_apply, pay26_eq]
  simp only [stepV_apply]
  unfold Exponent.expo Exponent.search
  rfl

end Blocks

end Cert.KernelIdeal.Body

end
-- ==== Proof.KernelIdeal.Blocks.lean ====
/-
  The kernel's blocks at a grid point, as the specification's values at the point's batch row and tokens.
-/
module

public import proofs.«01_k».proof.Proof.KernelIdeal.Pay

@[expose] public section

set_option maxRecDepth 16384

noncomputable section

namespace Cert.KernelIdeal.Body

open Idealize.ShloMosaic Idealize.ShloMosaic.TcCoe
open Idealize.SL Idealize.SL.Sem
open Idealize.ShloMosaic.VecWindow (window put)
open Cert.KernelIdeal.Gen

/-- A point's batch row. -/
def batch (i : grid0.Coords) : Fin 2 := ⟨(i 0).val / 4, by have : (i 0).val < 8 := (i 0).isLt; omega⟩

/-- A point's tile within its batch row. -/
def tile (i : grid0.Coords) : Fin 4 := ⟨(i 0).val % 4, by omega⟩

/-- The token of a row of a point's blocks. -/
def tok (i : grid0.Coords) (q : Fin 32) : Fin 128 := ⟨(tile i).val * 32 + q.val, by omega⟩

theorem tileWord_eq : ∀ i : grid0.Coords, tileWord i = BitVec.ofNat 32 (tile i).val := by decide +kernel

theorem rollWord_eq (i : grid0.Coords) : rollWord i = amount (BitVec.ofNat 32 ((0 : Fin 4).val * 32)) (tileWord i) := rfl

/-- The roll that brings a tile's own scales under its shard's lanes. -/
theorem rolled_eq (k s : Fin 4) (q : Fin 32) :
    rolled (roll (amount (BitVec.ofNat 32 (s.val * 32)) (BitVec.ofNat 32 k.val))) ⟨s.val * 32 + q.val, by omega⟩ = ⟨k.val * 32 + q.val, by omega⟩ := by
  apply Fin.ext
  show (s.val * 32 + q.val + 128 - _ % 128) % 128 = k.val * 32 + q.val
  rw [roll_amount]
  omega

section

variable (i : grid0.Coords) (x1 : Vec Ideal S4x2x128 .f32) (q : Fin 32)

theorem win1 (l : Fin 128) : window x1 (k0_off1 i) S1x1x128.size (k0_off1_inb i) (ix3 0 0 l) = x1 (ix3 0 (batch i) l) := by
  refine congrArg x1 (funext fun a => Fin.ext ?_)
  refine (congrArg (fun o => o + 1 * ((ix3 (0 : Fin 1) (0 : Fin 1) l) a).val) (congrFun (off1_eq i) a)).trans ?_
  match a with
  | ⟨0, _⟩ => rfl
  | ⟨1, _⟩ => show (i 0).val / 4 + 1 * 0 = (i 0).val / 4; omega
  | ⟨2, _⟩ => show 0 + 1 * l.val = l.val; omega

theorem win2 (l : Fin 128) : window x1 (k0_off2 i) S1x1x128.size (k0_off2_inb i) (ix3 0 0 l) = x1 (ix3 1 (batch i) l) := by
  refine congrArg x1 (funext fun a => Fin.ext ?_)
  refine (congrArg (fun o => o + 1 * ((ix3 (0 : Fin 1) (0 : Fin 1) l) a).val) (congrFun (off2_eq i) a)).trans ?_
  match a with
  | ⟨0, _⟩ => rfl
  | ⟨1, _⟩ => show (i 0).val / 4 + 1 * 0 = (i 0).val / 4; omega
  | ⟨2, _⟩ => show 0 + 1 * l.val = l.val; omega

theorem win3 (l : Fin 128) : window x1 (k0_off3 i) S1x1x128.size (k0_off3_inb i) (ix3 0 0 l) = x1 (ix3 2 (batch i) l) := by
  refine congrArg x1 (funext fun a => Fin.ext ?_)
  refine (congrArg (fun o => o + 1 * ((ix3 (0 : Fin 1) (0 : Fin 1) l) a).val) (congrFun (off3_eq i) a)).trans ?_
  match a with
  | ⟨0, _⟩ => rfl
  | ⟨1, _⟩ => show (i 0).val / 4 + 1 * 0 = (i 0).val / 4; omega
  | ⟨2, _⟩ => show 0 + 1 * l.val = l.val; omega

theorem win4 (l : Fin 128) : window x1 (k0_off4 i) S1x1x128.size (k0_off4_inb i) (ix3 0 0 l) = x1 (ix3 3 (batch i) l) := by
  refine congrArg x1 (funext fun a => Fin.ext ?_)
  refine (congrArg (fun o => o + 1 * ((ix3 (0 : Fin 1) (0 : Fin 1) l) a).val) (congrFun (off4_eq i) a)).trans ?_
  match a with
  | ⟨0, _⟩ => rfl
  | ⟨1, _⟩ => show (i 0).val / 4 + 1 * 0 = (i 0).val / 4; omega
  | ⟨2, _⟩ => show 0 + 1 * l.val = l.val; omega

/-- Of four lane tests at most the one of the lane's own shard holds, and it holds on one row. -/
theorem chain (s : Fin 4) (t q : Fin 32) (W : Fin 4 → EReal) :
    (if s.val * 32 + t.val = q.val + 96 then W 3 else if s.val * 32 + t.val = q.val + 64 then W 2 else
      if s.val * 32 + t.val = q.val + 32 then W 1 else if s.val * 32 + t.val = q.val + 0 then W 0 else 0) = if t = q then W s else 0 := by
  by_cases h : t = q
  · subst h
    rw [if_pos rfl]
    have hs : s = 0 ∨ s = 1 ∨ s = 2 ∨ s = 3 := by revert s; decide
    rcases hs with rfl | rfl | rfl | rfl
    · rw [if_neg (by simp), if_neg (by simp), if_neg (by simp), if_pos (by simp)]
    · rw [if_neg (by simp; omega), if_neg (by simp; omega), if_pos (by simp; omega)]
    · rw [if_neg (by simp; omega), if_pos (by simp; omega)]
    · rw [if_pos (by simp; omega)]
  · have hv : t.val ≠ q.val := fun e => h (Fin.ext e)
    rw [if_neg h, if_neg (by omega), if_neg (by omega), if_neg (by omega), if_neg (by omega)]

/-- The selection matrix: a shard's scale of the row's token on that shard's lane for the row, zero elsewhere. -/
theorem sel_entry (s : Fin 4) (t : Fin 32) :
    Scalar.select (IntOp.cmpi .eq (BitVec.ofNat 32 (s.val * 32 + t.val)) (IntOp.addi (BitVec.ofNat 32 q.val) 96#32)) (selLast i x1 (ix2 q ⟨s.val * 32 + t.val, by omega⟩))
      (selHead i x1 (ix2 q ⟨s.val * 32 + t.val, by omega⟩))
      = if t = q then x1 (ix3 s (batch i) (tok i q)) else (0 : EReal) := by
  unfold selHead selLast
  rw [sel2, sel1, sel0, sel3, win1, win2, win3, win4, rollWord_eq, tileWord_eq]
  rw [lane_eq (s.val * 32 + t.val) q.val 96 (by omega) (by omega) (by omega), lane_eq (s.val * 32 + t.val) q.val 64 (by omega) (by omega) (by omega),
    lane_eq (s.val * 32 + t.val) q.val 32 (by omega) (by omega) (by omega), lane_eq (s.val * 32 + t.val) q.val 0 (by omega) (by omega) (by omega)]
  simp only [select_ofBool]
  refine (chain s t q fun s' => x1 (ix3 s' (batch i) (rolled (roll (amount (BitVec.ofNat 32 (s'.val * 32)) (BitVec.ofNat 32 (tile i).val))) ⟨s.val * 32 + t.val, by omega⟩))).trans ?_
  by_cases h : t = q
  · subst h
    rw [if_pos rfl, if_pos rfl]
    exact congrArg (fun l => x1 (ix3 s (batch i) l)) (rolled_eq (tile i) s t)
  · rw [if_neg h, if_neg h]

end

/-- The blocks are the arguments' at the point's batch row and tokens. -/
structure IsBlk (a : Spec.Args) (i : grid0.Coords) (x0 : Vec Ideal S4x1x32x12288 .fp8e5m2) (x1 : Vec Ideal S4x2x128 .f32) (x2 : Vec Ideal S1x32x12288 .bf16)
    (x3 : Vec Ideal S1x12288 .f32) (x4 : Vec Ideal S1x32x12288 .bf16) : Prop where
  p : ∀ s q j, x0 (ix4 s 0 q j) = a.p s (batch i) (tok i q) j
  ps : ∀ s b t, x1 (ix3 s b t) = a.ps s b t
  r : ∀ q j, x2 (ix3 0 q j) = a.r (batch i) (tok i q) j
  gain : ∀ j, x3 (ix2 0 j) = a.gain j
  res : ∀ q j, x4 (ix3 0 q j) = a.res (batch i) (tok i q) j

section

variable {a : Spec.Args} {i : grid0.Coords} {x0 : Vec Ideal S4x1x32x12288 .fp8e5m2} {x1 : Vec Ideal S4x2x128 .f32} {x2 : Vec Ideal S1x32x12288 .bf16}
  {x3 : Vec Ideal S1x12288 .f32} {x4 : Vec Ideal S1x32x12288 .bf16} (H : IsBlk a i x0 x1 x2 x3 x4) (q : Fin 32) (j : Fin 12288)
include H

/-- The block product sums the shards' partial gradients, each times its scale. -/
theorem g_eq : k0_pay11 (F := Ideal) lane row (selHead i x1) (selLast i x1) x0 (ix2 q j) = Spec.g a (batch i) (tok i q) j := by
  rw [pay11, Fin.sum_univ_tiles 4 32 rfl]
  refine Finset.sum_congr rfl fun s _ => ?_
  have e : ∀ t : Fin 32, Scalar.select (IntOp.cmpi .eq (BitVec.ofNat 32 (s.val * 32 + t.val)) (IntOp.addi (BitVec.ofNat 32 q.val) 96#32)) (selLast i x1 (ix2 q ⟨s.val * 32 + t.val, by omega⟩))
        (selHead i x1 (ix2 q ⟨s.val * 32 + t.val, by omega⟩)) * x0 (ix4 ⟨(s.val * 32 + t.val) / 32, by omega⟩ 0 ⟨(s.val * 32 + t.val) % 32, by omega⟩ j)
      = if t = q then a.p s (batch i) (tok i q) j * a.ps s (batch i) (tok i q) else 0 := by
    intro t
    rw [sel_entry]
    by_cases h : t = q
    · subst h
      rw [if_pos rfl, if_pos rfl, H.ps, mul_comm]
      congr 1
      rw [← H.p]
      congr 2 <;> apply Fin.ext <;> simp <;> omega
    · rw [if_neg h, if_neg h, zero_mul]
  rw [Finset.sum_congr rfl fun t _ => e t]
  simp

theorem rstd_eq : k0_pay13 (F := Ideal) x2 (ix2 q 0) = Rows.rstd (a.r (batch i) (tok i q)) := by
  rw [pay13]
  simp only [H.r, show (Named.named κ "inv_d" 0x38AAAAAB#32 : Ideal .f32) = Rows.invd from invd_eq]
  rfl

theorem h_eq : hBlk i x0 x1 x2 (ix2 q j) = Spec.hTok a (batch i) (tok i q) j := by
  unfold hBlk
  rw [pay14, g_eq H, rstd_eq H, H.r]
  rfl

theorem dr_eq : drBlk i x0 x1 x2 x3 (ix2 q j) = Rows.dr (Spec.g a (batch i) (tok i q)) (a.r (batch i) (tok i q)) a.gain j := by
  unfold drBlk
  have e : ∀ x, k0_pay14 (F := Ideal) lane row (selHead i x1) (selLast i x1) x0 x2 (ix2 q x) = Spec.hTok a (batch i) (tok i q) x := fun x => h_eq H q x
  rw [pay15, g_eq H, rstd_eq H]
  simp only [e, H.r, H.gain, show (Named.named κ "inv_d" 0x38AAAAAB#32 : Ideal .f32) = Rows.invd from invd_eq]
  rfl

/-- The sum of the residual's gradient and the incoming one. -/
theorem gx_eq : drBlk i x0 x1 x2 x3 (ix2 q j) + x4 (ix3 0 q j) = Spec.gx a (batch i) (tok i q) j := by
  rw [dr_eq H, H.res]
  rfl

theorem gxBlk_eq : gxBlk i x0 x1 x2 x3 x4 (ix3 0 q j) = Spec.gx a (batch i) (tok i q) j := by
  unfold gxBlk
  rw [pay18, gx_eq H]

theorem ratio_eq : ratioBlk i x0 x1 x2 x3 x4 (ix2 q 0) = Spec.ratio (Spec.gx a (batch i) (tok i q)) := by
  unfold ratioBlk
  rw [pay24, Spec.bot_bf16]
  simp only [gx_eq H]
  rfl

theorem exp_eq : expBlk i x0 x1 x2 x3 x4 (ix2 q 0) = Exponent.expo (Spec.ratio (Spec.gx a (batch i) (tok i q))) := by
  unfold expBlk fieldBlk
  rw [pay27, ratio_eq H]

theorem codes_eq : codesBlk i x0 x1 x2 x3 x4 (ix3 0 q j) = Spec.code a (batch i) (tok i q) j := by
  unfold codesBlk
  have e : k0_pay27 (F := Ideal) (ratioBlk i x0 x1 x2 x3 x4) (fieldBlk i x0 x1 x2 x3 x4) 4#32 (ix2 q 0) = _ := exp_eq H q
  rw [pay28, e, gx_eq H, Exponent.inv_eq _ (Spec.ratio_nonneg _)]
  rfl

theorem scale_eq : Ideal.ofBits .f32 (IntOp.shli .vector (IntOp.addi (expBlk i x0 x1 x2 x3 x4 (ix2 q 0)) 127#32) 23#32) = Spec.scale a (batch i) (tok i q) := by
  rw [exp_eq H, Exponent.scale_eq _ (Spec.ratio_nonneg _)]
  rfl

/-- The gain accumulator's step. -/
theorem gainStep_eq (y : Vec Ideal S8x12288 .f32) (r : Fin 8) : gainStep i x0 x1 x2 y (ix2 r j)
    = (if isFirst i then 0 else y (ix2 r j)) + ∑ x : Fin 4, Spec.hTok a (batch i) (tok i ⟨x.val * 8 + r.val, by omega⟩) j := by
  unfold gainStep
  rw [pay22]
  simp only [h_eq H]
  congr 1
  split
  · exact pay19 j r
  · rfl

/-- The bias accumulator's step. -/
theorem biasStep_eq (y : Vec Ideal S8x12288 .f32) (r : Fin 8) : biasStep i x0 x1 x2 x3 x4 y (ix2 r j)
    = (if isFirst i then 0 else y (ix2 r j)) + ∑ x : Fin 4, Spec.gx a (batch i) (tok i ⟨x.val * 8 + r.val, by omega⟩) j := by
  unfold biasStep
  rw [pay23]
  simp only [gx_eq H]
  congr 1
  split
  · exact pay20 j r
  · rfl

end

end Cert.KernelIdeal.Body

end
-- ==== Proof.KernelIdeal.Inputs.lean ====
/-
  The kernel's input blocks at a grid point are the argument arrays' at the point's batch row and tokens.
-/
module

public import proofs.«01_k».proof.Proof.KernelIdeal.Blocks
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Body

open Idealize.ShloMosaic Idealize.ShloMosaic.TcCoe
open Idealize.SL Idealize.SL.Sem
open Cert.KernelIdeal.Gen

variable (m : (ℓ : Loc nD τ sig) → Buf (Elt Ideal) ℓ) (c : Dev nD)

/-- The block index of every window, as a function of the point. -/
theorem idx : ∀ t : Fin cfg0.N,
    (win0_0.index t 0 = 0 ∧ win0_0.index t 1 = t.val / 4 ∧ win0_0.index t 2 = t.val % 4 ∧ win0_0.index t 3 = 0)
    ∧ (win0_1.index t 0 = 0 ∧ win0_1.index t 1 = 0 ∧ win0_1.index t 2 = 0)
    ∧ (win0_2.index t 0 = t.val / 4 ∧ win0_2.index t 1 = t.val % 4 ∧ win0_2.index t 2 = 0)
    ∧ (win0_3.index t 0 = 0 ∧ win0_3.index t 1 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0)
    ∧ (win0_6.index t 0 = 0 ∧ win0_6.index t 1 = 0)
    ∧ (win0_7.index t 0 = 0 ∧ win0_7.index t 1 = 0)
    ∧ (win0_8.index t 0 = t.val / 4 ∧ win0_8.index t 1 = t.val % 4 ∧ win0_8.index t 2 = 0)
    ∧ (win0_9.index t 0 = 0 ∧ win0_9.index t 1 = 0) :=
  (by decide +kernel : ∀ t : Fin grid0.N, _)

theorem coords_val : ∀ t : Fin cfg0.N, (grid0.coords t 0).val = t.val :=
  (by decide +kernel : ∀ t : Fin grid0.N, (grid0.coords t 0).val = t.val)

theorem points (t : Fin cfg0.N) : t.val < 8 := t.isLt

theorem batch_eq (t : Fin cfg0.N) : batch (grid0.coords t) = ⟨t.val / 4, by have := points t; omega⟩ := Fin.ext (by
  show (grid0.coords t 0).val / 4 = _
  rw [coords_val])

theorem tile_eq (t : Fin cfg0.N) : tile (grid0.coords t) = ⟨t.val % 4, by omega⟩ := Fin.ext (by
  show (grid0.coords t 0).val % 4 = _
  rw [coords_val])

theorem tok_eq (t : Fin cfg0.N) (q : Fin 32) : tok (grid0.coords t) q = ⟨t.val % 4 * 32 + q.val, by omega⟩ := Fin.ext (by
  show (tile (grid0.coords t)).val * 32 + q.val = _
  rw [tile_eq])

/-- The arguments by coordinates. -/
abbrev argsOf : Spec.Args :=
  Spec.args (m ((c : Thread nD τ).loc main_arg0)) (m ((c : Thread nD τ).loc main_arg1)) (m ((c : Thread nD τ).loc main_arg2)) (m ((c : Thread nD τ).loc main_arg3)) (m ((c : Thread nD τ).loc main_arg4))

theorem blk0 (t : Fin cfg0.N) (s : Fin 4) (q : Fin 32) (j : Fin 12288) :
    iblk m c 0 t (ix4 s 0 q j) = m ((c : Thread nD τ).loc main_arg0) (ix4 s ⟨t.val / 4, by have := points t; omega⟩ ⟨t.val % 4 * 32 + q.val, by omega⟩ j) := by
  rw [← V_main_arg0 m c]
  blk_ext [iblk, idx t]

theorem blk1 (t : Fin cfg0.N) (s : Fin 4) (b : Fin 2) (l : Fin 128) :
    iblk m c 1 t (ix3 s b l) = m ((c : Thread nD τ).loc main_arg1) (ix3 s b l) := by
  rw [← V_main_arg1 m c]
  blk_ext [iblk, idx t]

theorem blk2 (t : Fin cfg0.N) (q : Fin 32) (j : Fin 12288) :
    iblk m c 2 t (ix3 0 q j) = m ((c : Thread nD τ).loc main_arg2) (ix3 ⟨t.val / 4, by have := points t; omega⟩ ⟨t.val % 4 * 32 + q.val, by omega⟩ j) := by
  rw [← V_main_arg2 m c]
  blk_ext [iblk, idx t]

theorem blk3 (t : Fin cfg0.N) (j : Fin 12288) : iblk m c 3 t (ix2 0 j) = m ((c : Thread nD τ).loc main_arg3) (ix1 j) := by
  have e : iblk m c 3 t (ix2 0 j) = V m c main_v0 (ix2 0 j) := by
    blk_ext [iblk, idx t]
  rw [e]
  entry_read
  pointwise

theorem blk4 (t : Fin cfg0.N) (q : Fin 32) (j : Fin 12288) :
    iblk m c 4 t (ix3 0 q j) = m ((c : Thread nD τ).loc main_arg4) (ix3 ⟨t.val / 4, by have := points t; omega⟩ ⟨t.val % 4 * 32 + q.val, by omega⟩ j) := by
  rw [← V_main_arg4 m c]
  blk_ext [iblk, idx t]

/-- Every point's blocks are the arguments'. -/
theorem isBlk (t : Fin cfg0.N) : IsBlk (argsOf m c) (grid0.coords t) (iblk m c 0 t) (iblk m c 1 t) (iblk m c 2 t) (iblk m c 3 t) (iblk m c 4 t) where
  p s q j := by rw [batch_eq, tok_eq]; exact blk0 m c t s q j
  ps s b l := blk1 m c t s b l
  r q j := by rw [batch_eq, tok_eq]; exact blk2 m c t q j
  gain j := blk3 m c t j
  res q j := by rw [batch_eq, tok_eq]; exact blk4 m c t q j

end Cert.KernelIdeal.Body

end
-- ==== Proof.KernelIdeal.Sums.lean ====
/-
  The two accumulators after the last point: each of their eight rows the sum of every eighth token, so that the sum of
  the rows is the sum over all the tokens.
-/
module

public import proofs.«01_k».proof.Proof.KernelIdeal.Inputs
public import proofs.«01_k».proof.Proof.KernelIdeal.Run

@[expose] public section

set_option maxRecDepth 16384

noncomputable section

namespace Cert.KernelIdeal.Body

open Idealize.ShloMosaic Idealize.ShloMosaic.TcCoe
open Idealize.SL Idealize.SL.Sem
open Idealize.ShloMosaic.VecWindow (window put)
open Cert.KernelIdeal.Gen

/-- What one row of an accumulator gains at point `n` from a token's term. -/
def term (f : Fin 2 → Fin 128 → EReal) (r : Fin 8) (n : ℕ) : EReal :=
  ∑ x : Fin 4, f ⟨n / 4 % 2, by omega⟩ ⟨n % 4 * 32 + (x.val * 8 + r.val), by omega⟩

/-- The rows' sums over all the points add up to the sum over all the tokens. -/
theorem sum_terms (f : Fin 2 → Fin 128 → EReal) : ∑ r : Fin 8, ∑ n ∈ Finset.range 8, term f r n = ∑ b, ∑ t, f b t := by
  have e : ∀ r : Fin 8, ∑ n ∈ Finset.range 8, term f r n = ∑ b : Fin 2, ∑ k : Fin 4, ∑ x : Fin 4, f b ⟨k.val * 32 + (x.val * 8 + r.val), by omega⟩ := by
    intro r
    rw [Finset.sum_range, Fin.sum_univ_tiles 2 4 rfl]
    refine Finset.sum_congr rfl fun b _ => Finset.sum_congr rfl fun k _ => Finset.sum_congr rfl fun x _ => ?_
    congr 1 <;> apply Fin.ext <;> dsimp only <;> omega
  have e2 : ∀ b : Fin 2, ∑ t, f b t = ∑ k : Fin 4, ∑ x : Fin 4, ∑ r : Fin 8, f b ⟨k.val * 32 + (x.val * 8 + r.val), by omega⟩ := by
    intro b
    rw [Fin.sum_univ_tiles 4 32 rfl]
    refine Finset.sum_congr rfl fun k _ => ?_
    rw [Fin.sum_univ_tiles 4 8 rfl]
  simp only [e, e2]
  rw [Finset.sum_comm]
  refine Finset.sum_congr rfl fun b _ => ?_
  rw [Finset.sum_comm]
  refine Finset.sum_congr rfl fun k _ => Finset.sum_comm

variable (m : (ℓ : Loc nD τ sig) → Buf (Elt Ideal) ℓ) (c : Dev nD)

theorem term_point (f : Fin 2 → Fin 128 → EReal) (r : Fin 8) (t : Fin cfg0.N) :
    ∑ x : Fin 4, f (batch (grid0.coords t)) (tok (grid0.coords t) ⟨x.val * 8 + r.val, by omega⟩) = term f r t.val := by
  have h := points t
  refine Finset.sum_congr rfl fun x _ => ?_
  rw [batch_eq, tok_eq]
  congr 1
  apply Fin.ext
  show t.val / 4 = t.val / 4 % 2
  omega

theorem accs_gain (r : Fin 8) (j : Fin 12288) : ∀ (n : ℕ) (h : n < cfg0.N),
    (accs m c n h).1 (ix2 r j) = ∑ k ∈ Finset.range (n + 1), term (fun b t => Spec.hTok (argsOf m c) b t j) r k
  | 0, h => by
    have e := gainStep_eq (isBlk m c ⟨0, h⟩) j (k0_pay19 (F := Ideal)) r
    rw [if_pos ((first_iff ⟨0, h⟩).mpr rfl), zero_add, term_point (fun b t => Spec.hTok (argsOf m c) b t j)] at e
    rw [Finset.sum_range_one]
    exact e
  | n + 1, h => by
    have e := gainStep_eq (isBlk m c ⟨n + 1, h⟩) j (accs m c n (Nat.lt_of_succ_lt h)).1 r
    rw [if_neg (fun hf => Nat.succ_ne_zero n ((first_iff ⟨n + 1, h⟩).mp hf)), term_point (fun b t => Spec.hTok (argsOf m c) b t j),
      accs_gain r j n (Nat.lt_of_succ_lt h)] at e
    rw [Finset.sum_range_succ]
    exact e

theorem accs_bias (r : Fin 8) (j : Fin 12288) : ∀ (n : ℕ) (h : n < cfg0.N),
    (accs m c n h).2 (ix2 r j) = ∑ k ∈ Finset.range (n + 1), term (fun b t => Spec.gx (argsOf m c) b t j) r k
  | 0, h => by
    have e := biasStep_eq (isBlk m c ⟨0, h⟩) j (k0_pay20 (F := Ideal)) r
    rw [if_pos ((first_iff ⟨0, h⟩).mpr rfl), zero_add, term_point (fun b t => Spec.gx (argsOf m c) b t j)] at e
    rw [Finset.sum_range_one]
    exact e
  | n + 1, h => by
    have e := biasStep_eq (isBlk m c ⟨n + 1, h⟩) j (accs m c n (Nat.lt_of_succ_lt h)).2 r
    rw [if_neg (fun hf => Nat.succ_ne_zero n ((first_iff ⟨n + 1, h⟩).mp hf)), term_point (fun b t => Spec.gx (argsOf m c) b t j),
      accs_bias r j n (Nat.lt_of_succ_lt h)] at e
    rw [Finset.sum_range_succ]
    exact e

/-- The gain's gradient, as the last point writes it. -/
theorem gain_total (t : Fin cfg0.N) (ht : t.val = 7) (j : Fin 12288) :
    k0_pay3 (accs m c t.val t.isLt).1 (ix2 0 j) = Spec.dgain (argsOf m c) j := by
  rw [pay3]
  simp only [accs_gain, ht]
  exact sum_terms _

/-- The bias's gradient, as the last point writes it. -/
theorem bias_total (t : Fin cfg0.N) (ht : t.val = 7) (j : Fin 12288) :
    k0_pay4 (accs m c t.val t.isLt).2 (ix2 0 j) = Spec.dbias (argsOf m c) j := by
  rw [pay4]
  simp only [accs_bias, ht]
  exact sum_terms _

end Cert.KernelIdeal.Body

end
-- ==== Proof.KernelIdeal.Scales.lean ====
/-
  The scales' buffer: a point adds its tile's scales to its batch row, which its first tile has cleared; after the last
  point every row holds its tokens' scales, whatever the buffer held before.
-/
module

public import proofs.«01_k».proof.Proof.KernelIdeal.Inputs
public import proofs.«01_k».proof.Proof.KernelIdeal.Run

@[expose] public section

set_option maxRecDepth 16384

noncomputable section

namespace Cert.KernelIdeal.Body

open Idealize.ShloMosaic Idealize.ShloMosaic.TcCoe
open Idealize.SL Idealize.SL.Sem
open Idealize.ShloMosaic.VecWindow (window put)
open Cert.KernelIdeal.Gen

/-- A batch row put into the buffer. -/
theorem put_row (y : Vec Ideal S2x128 .f32) (off : Fin 2 → ℕ) (n : ℕ) (hoff : off = ![n, 0]) (w : Vec Ideal S1x128 .f32) (b : Fin 2) (l : Fin 128) :
    put (s := S2x128) y off S1x128.size w (ix2 b l) = if b.val = n then w (ix2 0 l) else y (ix2 b l) := by
  subst hoff
  unfold put
  by_cases hb : b.val = n
  · have h : ∀ a : Fin S2x128.rank, (![n, 0] : Fin 2 → ℕ) a ≤ ((ix2 b l : S2x128.Idx) a).val
        ∧ ((ix2 b l : S2x128.Idx) a).val < (![n, 0] : Fin 2 → ℕ) a + S1x128.size a := by
      intro a
      fin_cases a
      · exact ⟨le_of_eq hb.symm, by show b.val < n + 1; omega⟩
      · exact ⟨Nat.zero_le _, by show l.val < 0 + 128; omega⟩
    rw [dif_pos h, if_pos hb]
    apply congrArg w
    funext a
    fin_cases a
    · apply Fin.ext
      show b.val - n = 0
      omega
    · apply Fin.ext
      show l.val - 0 = l.val
      omega
  · rw [if_neg hb, dif_neg]
    intro h
    have h0 := h (0 : Fin 2)
    have h1 : n ≤ b.val ∧ b.val < n + 1 := h0
    omega

/-- A batch row read from the buffer. -/
theorem window_row (y : Vec Ideal S2x128 .f32) (off : Fin 2 → ℕ) (b : Fin 2) (hoff : off = ![b.val, 0])
    (inb : ∀ a, off a + S1x128.size a ≤ S2x128.size a) (l : Fin 128) : window y off S1x128.size inb (ix2 0 l) = y (ix2 b l) := by
  subst hoff
  unfold window
  apply congrArg y
  funext a
  fin_cases a
  · apply Fin.ext
    show b.val + 1 * 0 = b.val
    omega
  · apply Fin.ext
    show 0 + 1 * l.val = l.val
    omega

theorem mul_32 : ∀ k : Fin 4, Scalar.muli (BitVec.ofNat 32 k.val) 32#32 = BitVec.ofNat 32 (k.val * 32) := by decide

/-- The scales' buffer is never fetched. -/
theorem fetch_9 : ∀ t : Fin cfg0.N, (cfg0.win 9).fetch t = false :=
  (by decide +kernel : ∀ t : Fin grid0.N, win0_9.fetch t = false)

/-- One lane takes at most one row's scale: the row of its token. -/
theorem sum_lane (k : Fin 4) (l : Fin 128) (f : Fin 32 → EReal) (v : EReal) (hv : ∀ q : Fin 32, l.val = k.val * 32 + q.val → f q = v) :
    ∑ x : Fin 32, Scalar.select (IntOp.cmpi .eq (BitVec.ofNat 32 l.val) (IntOp.addi (BitVec.ofNat 32 x.val) (Scalar.muli (BitVec.ofNat 32 k.val) 32#32))) (f x) 0
      = if l.val / 32 = k.val then v else 0 := by
  have e : ∀ x : Fin 32, Scalar.select (IntOp.cmpi .eq (BitVec.ofNat 32 l.val) (IntOp.addi (BitVec.ofNat 32 x.val) (Scalar.muli (BitVec.ofNat 32 k.val) 32#32))) (f x) 0
      = if l.val = x.val + k.val * 32 then f x else 0 := by
    intro x
    rw [show Scalar.muli (BitVec.ofNat 32 k.val) 32#32 = BitVec.ofNat 32 (k.val * 32) from mul_32 k,
      lane_eq l.val x.val (k.val * 32) (by omega) (by omega) (by omega), select_ofBool]
  simp only [e]
  by_cases hl : l.val / 32 = k.val
  · rw [if_pos hl, Finset.sum_eq_single (⟨l.val % 32, by omega⟩ : Fin 32)]
    · rw [if_pos (by dsimp only; omega), hv _ (by dsimp only; omega)]
    · intro x _ hx
      rw [if_neg]
      intro h
      exact hx (Fin.ext (by dsimp only; omega))
    · exact fun h => absurd (Finset.mem_univ _) h
  · rw [if_neg hl]
    refine Finset.sum_eq_zero fun x _ => ?_
    rw [if_neg]
    omega

variable (m : (ℓ : Loc nD τ sig) → Buf (Elt Ideal) ℓ) (c : Dev nD)

/-- The scales' buffer after a point, read at a token. -/
theorem scaleStep_eq (t : Fin cfg0.N) (y : Vec Ideal S2x128 .f32) (b : Fin 2) (l : Fin 128) :
    scaleStep (grid0.coords t) (iblk m c 0 t) (iblk m c 1 t) (iblk m c 2 t) (iblk m c 3 t) (iblk m c 4 t) y (ix2 b l)
      = if b.val = t.val / 4 then
          (if t.val % 4 = 0 then 0 else y (ix2 b l)) + (if l.val / 32 = t.val % 4 then Spec.scale (argsOf m c) b l else 0)
        else y (ix2 b l) := by
  have ht := points t
  have ho5 : k0_off5 (grid0.coords t) = ![t.val / 4, 0] := by rw [off5_eq, coords_val]
  have ho6 : k0_off6 (grid0.coords t) = ![t.val / 4, 0] := by rw [off6_eq, coords_val]
  have htile : (tile (grid0.coords t)).val = t.val % 4 := by rw [tile_eq]
  have hs : ∀ (hb : b.val = t.val / 4), ∑ x : Fin 32, Scalar.select (IntOp.cmpi .eq (BitVec.ofNat 32 l.val) (IntOp.addi (BitVec.ofNat 32 x.val) (Scalar.muli (tileWord (grid0.coords t)) 32#32)))
      (Ideal.ofBits .f32 (IntOp.shli .vector (IntOp.addi (expBlk (grid0.coords t) (iblk m c 0 t) (iblk m c 1 t) (iblk m c 2 t) (iblk m c 3 t) (iblk m c 4 t) (ix2 x 0)) 127#32) 23#32)) 0
      = if l.val / 32 = t.val % 4 then Spec.scale (argsOf m c) b l else 0 := by
    intro hb
    rw [tileWord_eq, sum_lane (tile (grid0.coords t)) l _ (Spec.scale (argsOf m c) b l), htile]
    intro q hq
    rw [scale_eq (isBlk m c t) q, batch_eq, tok_eq]
    congr 1
    · exact Fin.ext hb.symm
    · rw [htile] at hq
      exact Fin.ext hq.symm
  by_cases h : k0_cond2 (grid0.coords t) = 1#1
  · rw [scaleStep_clear _ h, put_row _ _ _ ho6, put_row _ _ _ ho5]
    have h4 : t.val % 4 = 0 := (clear_iff t).mp h
    by_cases hb : b.val = t.val / 4
    · rw [if_pos hb, if_pos hb, pay2, hs hb, pay21, if_pos h4]
    · rw [if_neg hb, if_neg hb, if_neg hb]
  · rw [scaleStep_keep _ h, put_row _ _ _ ho6]
    have h4 : ¬ t.val % 4 = 0 := fun e => h ((clear_iff t).mpr e)
    by_cases hb : b.val = t.val / 4
    · rw [if_pos hb, if_pos hb, pay2, hs hb, window_row _ _ b (ho6.trans (by rw [hb])), if_neg h4]
    · rw [if_neg hb, if_neg hb]

/-- What the scales' buffer holds after a point, at the tokens up to the point's. -/
def Held (n : ℕ) (X : Vec Ideal S2x128 .f32) : Prop :=
  ∀ (b : Fin 2) (l : Fin 128), (b.val < n / 4 → X (ix2 b l) = Spec.scale (argsOf m c) b l)
    ∧ (b.val = n / 4 → X (ix2 b l) = if l.val / 32 ≤ n % 4 then Spec.scale (argsOf m c) b l else 0)

theorem held_step (t : Fin cfg0.N) (Y : Vec Ideal S2x128 .f32) (hY : t.val = 0 ∨ Held m c (t.val - 1) Y) :
    Held m c t.val (scaleStep (grid0.coords t) (iblk m c 0 t) (iblk m c 1 t) (iblk m c 2 t) (iblk m c 3 t) (iblk m c 4 t) Y) := by
  intro b l
  have ht := points t
  rw [scaleStep_eq]
  constructor
  · intro hb
    rw [if_neg (by omega)]
    rcases hY with h0 | hY
    · omega
    · by_cases h : b.val < (t.val - 1) / 4
      · exact (hY b l).1 h
      · rw [(hY b l).2 (by omega), if_pos (by omega)]
  · intro hb
    rw [if_pos hb]
    by_cases h4 : t.val % 4 = 0
    · rw [if_pos h4, h4, zero_add]
      by_cases hl : l.val / 32 = 0
      · rw [if_pos hl, if_pos (by omega)]
      · rw [if_neg hl, if_neg (by omega)]
    · rw [if_neg h4]
      rcases hY with h0 | hY
      · omega
      · rw [(hY b l).2 (by omega)]
        by_cases hl : l.val / 32 = t.val % 4
        · rw [if_neg (by omega), if_pos hl, if_pos (by omega), zero_add]
        · rw [if_neg hl, add_zero]
          by_cases hl' : l.val / 32 ≤ t.val % 4
          · rw [if_pos hl', if_pos (by omega)]
          · rw [if_neg hl', if_neg (by omega)]

theorem held_leaves : ∀ (n : ℕ) (h : n < cfg0.N) (X : Vec Ideal S2x128 .f32), (rdat m c).Leaves 9 ⟨n, h⟩ X → Held m c n X
  | 0, h, X, hX => by
    obtain ⟨Y, hY, hXY⟩ := hX
    have e : X = scaleStep (grid0.coords ⟨0, h⟩) (iblk m c 0 ⟨0, h⟩) (iblk m c 1 ⟨0, h⟩) (iblk m c 2 ⟨0, h⟩) (iblk m c 3 ⟨0, h⟩) (iblk m c 4 ⟨0, h⟩) Y := hXY
    rw [e]
    exact held_step m c ⟨0, h⟩ Y (.inl rfl)
  | n + 1, h, X, hX => by
    obtain ⟨Y, hY, hXY⟩ := hX
    have e : X = scaleStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) Y := hXY
    rw [e]
    refine held_step m c ⟨n + 1, h⟩ Y (.inr ?_)
    rw [(rdat m c).finds_of_pos (fetch_9 _) (Nat.succ_ne_zero n)] at hY
    rcases hY with hf | hl
    · have h7 := (flush0_9 _).mp hf
      have h8 := points ⟨n + 1, h⟩
      dsimp only at h7 h8
      omega
    · exact held_leaves n (Nat.lt_of_succ_lt h) Y hl

/-- What the last point leaves in the scales' buffer. -/
theorem scale_total (t : Fin cfg0.N) (ht : t.val = 7) (X : Vec Ideal S2x128 .f32) (hX : (rdat m c).Leaves 9 t X) (b : Fin 2) (l : Fin 128) :
    X (ix2 b l) = Spec.scale (argsOf m c) b l := by
  have hH : Held m c t.val X := held_leaves m c t.val t.isLt X hX
  rw [ht] at hH
  by_cases hb : b.val < 1
  · exact (hH b l).1 hb
  · rw [(hH b l).2 (by omega), if_pos (by omega)]

end Cert.KernelIdeal.Body

end
-- ==== Proof.ReferenceIdeal.Pay.lean ====
/-
  The reference's results over the extended reals, element by element.
-/
module

public import proofs.«01_k».proof.Proof.Gen.ReferenceIdeal.Value
public import proofs.«01_k».proof.Proof.Spec
public import Idealize.ShloMosaic.Lib.Pipeline.ValueKit.Basic

@[expose] public section

set_option maxRecDepth 16384

noncomputable section

namespace Cert.ReferenceIdeal.Body

open Idealize.ShloMosaic Idealize.ShloMosaic.TcCoe
open Idealize.SL Idealize.SL.Sem
open Cert.ReferenceIdeal.Gen

/-! ## A sum over the first two axes of a rank-three array -/

section Sum

variable {n0 n1 n2 : ℕ} {t : Shape}

/-- The source indices that drop to `j` are those with `j`'s coordinate on the last axis. -/
theorem fiber01 (h : (⟨3, ![n0, n1, n2]⟩ : Shape).Reduces [0, 1] t) (hr : t.rank = 1) (hs : t.size ⟨0, by omega⟩ = n2) (j : t.Idx) (i : (⟨3, ![n0, n1, n2]⟩ : Shape).Idx) :
    h.drop i = j ↔ ∃ k : Fin n0 × Fin n1, ix3 k.1 k.2 ⟨(j ⟨0, by omega⟩).val, Shape.coordLt (j ⟨0, by omega⟩) hs⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, by omega⟩)).symm
  · rintro ⟨k, rfl⟩
    funext b
    apply Fin.ext
    match b with
    | ⟨0, _⟩ => rfl
    | ⟨_ + 1, hb⟩ => exact absurd hb (by omega)

theorem reduceAdd01 (h : (⟨3, ![n0, n1, n2]⟩ : Shape).Reduces [0, 1] t) (hr : t.rank = 1) (hs : t.size ⟨0, by omega⟩ = n2) (v : (⟨3, ![n0, n1, n2]⟩ : Shape).Idx → EReal) (j : t.Idx) :
    Ideal.reduceAdd h v j = ∑ b : Fin n0, ∑ q : Fin n1, v (ix3 b q ⟨(j ⟨0, by omega⟩).val, Shape.coordLt (j ⟨0, by omega⟩) hs⟩) := by
  refine (Finset.sum_filter_eq_sum_of_fiber _ (fun k : Fin n0 × Fin n1 => ix3 k.1 k.2 ⟨(j ⟨0, by omega⟩).val, Shape.coordLt (j ⟨0, by omega⟩) hs⟩)
    (fun x y e => Prod.ext (congrFun e 0) (congrFun e 1)) (fiber01 h hr hs j) v).trans ?_
  exact Fintype.sum_prod_type _

end Sum

/-! ## The blocks -/

section Blocks

variable (v0 : Vec Ideal S4x2x128x12288 .fp8e5m2) (v1 : Vec Ideal S4x2x128 .f32) (v2 : Vec Ideal S2x128x12288 .bf16) (v3 : Vec Ideal S12288 .f32)
  (v4 : Vec Ideal S2x128x12288 .bf16) (v g rf : FVec Ideal S2x128x12288 .f32) (x : FVec Ideal S2x128x1 .f32) (w : FVec Ideal S2x128x12288 .bf16)
  (b : Fin 2) (q : Fin 128) (j : Fin 12288)

theorem pay2 : k0_pay2 (F := Ideal) v0 v1 (ix3 b q j) = ∑ s : Fin 4, v0 (ix4 s b q j) * v1 (ix3 s b q) := by
  pointwise [k0_pay2]

theorem pay3 : k0_pay3 (F := Ideal) v2 (ix3 b q j) = v2 (ix3 b q j) := by
  pointwise [k0_pay3]

theorem pay4 : k0_pay4 (F := Ideal) v2 (ix3 b q 0)
    = Ideal.rsqrt (Ideal.div (∑ x : Fin 12288, v2 (ix3 b q x) * v2 (ix3 b q x)) (Ideal.ofBits .f32 0x46400000#32) + Ideal.ofBits .f32 0x358637BD#32) := by
  pointwise [k0_pay4, k0_pay3]

theorem pay5 : k0_pay5 (F := Ideal) v0 v1 v2 v3 v4 (ix3 b q j)
    = k0_pay4 (F := Ideal) v2 (ix3 b q 0) * (k0_pay2 (F := Ideal) v0 v1 (ix3 b q j) * v3 (ix1 j))
      - v2 (ix3 b q j) * (k0_pay4 (F := Ideal) v2 (ix3 b q 0) * (k0_pay4 (F := Ideal) v2 (ix3 b q 0) * k0_pay4 (F := Ideal) v2 (ix3 b q 0)))
        * Ideal.div (∑ x : Fin 12288, k0_pay2 (F := Ideal) v0 v1 (ix3 b q x) * v3 (ix1 x) * v2 (ix3 b q x)) (Ideal.ofBits .f32 0x46400000#32)
      + v4 (ix3 b q j) := by
  pointwise [k0_pay5, k0_pay3]

theorem pay6 : k0_pay6 (F := Ideal) v0 v1 v2 v3 v4 (ix3 b q j) = k0_pay5 (F := Ideal) v0 v1 v2 v3 v4 (ix3 b q j) := by
  pointwise [k0_pay6]

/-- The exponents from the row maxima. -/
def expOf (m : FVec Ideal S2x128 .f32) : FVec Ideal S2x128 .f32 :=
  select (cmpf .olt (mulf m (broadcast S2x128 (Scalar.ofBits .f32 0x37924925#32))) (broadcast S2x128 (Scalar.ofBits .f32 0x00800000#32)))
    (broadcast S2x128 (Scalar.ofBits .f32 0x00000000#32))
    (minimumf (addf (floor (divf (log (mulf m (broadcast S2x128 (Scalar.ofBits .f32 0x37924925#32)))) (broadcast S2x128 (Scalar.log (Scalar.ofBits .f32 0x40000000#32)))))
      (broadcast S2x128 (Scalar.ofBits .f32 0x3F800000#32))) (broadcast S2x128 (Scalar.ofBits .f32 0x42E20000#32)))

/-- The row maxima. -/
def maxOf (u : FVec Ideal S2x128x12288 .f32) : FVec Ideal S2x128 .f32 :=
  multiReduction .maximumf [2] S2x128 (absf u) 0xFF800000#32 reduces_S2x128x12288_S2x128 (.inl rfl) rfl

/-- The codes from the exponents. -/
def codesOf (u : FVec Ideal S2x128x12288 .f32) (e : FVec Ideal S2x128 .f32) : FVec Ideal S2x128x12288 .f32 :=
  minimumf (broadcast S2x128x12288 (Scalar.ofBits .f32 0x47600000#32)) (maximumf (broadcast S2x128x12288 (Scalar.ofBits .f32 0xC7600000#32))
    (mulf u (broadcastTo S2x128x12288 (shapeCast S2x128x1 (exp2 (subf (broadcast S2x128 (Scalar.ofBits .f32 0x00000000#32)) e)) shapeCasts_S2x128_S2x128x1) broadcasts_S2x128x1_S2x128x12288)))

theorem pay10_eq : k0_pay10 (F := Ideal) w = expOf (maxOf (k0_pay9 w)) := rfl
theorem pay12_eq : k0_pay12 (F := Ideal) w = codesOf (k0_pay9 w) (k0_pay10 w) := rfl
theorem pay11_eq : k0_pay11 (F := Ideal) w = exp2 (k0_pay10 w) := rfl

theorem exp2_def (x : Ideal .f32) : FloatOps.exp2 x = Ideal.exp2 x := rfl

theorem exp2_apply (e : FVec Ideal S2x128 .f32) : exp2 e (ix2 b q) = Ideal.exp2 (e (ix2 b q)) := rfl

theorem pay9 : k0_pay9 (F := Ideal) w (ix3 b q j) = w (ix3 b q j) := rfl

theorem maxOf_apply (u : FVec Ideal S2x128x12288 .f32) : maxOf u (ix2 b q)
    = Finset.univ.fold max (Ideal.ofBits .f32 0xFF800000#32) (fun x : Fin 12288 => FloatOps.absf (F := Ideal) (φ := .f32) (u (ix3 b q x))) := by
  pointwise [maxOf]

theorem expOf_apply (m : FVec Ideal S2x128 .f32) : expOf m (ix2 b q) = Exponent.expR (m (ix2 b q) * Ideal.ofBits .f32 0x37924925#32) := by
  pointwise [expOf, Exponent.expR]
  rfl

theorem codesOf_apply (u : FVec Ideal S2x128x12288 .f32) (e : FVec Ideal S2x128 .f32) : codesOf u e (ix3 b q j)
    = min (Ideal.ofBits .f32 0x47600000#32) (max (Ideal.ofBits .f32 0xC7600000#32) (u (ix3 b q j) * FloatOps.exp2 (F := Ideal) (φ := .f32) (0 - e (ix2 b q)))) := by
  pointwise [codesOf]

theorem pay1 (u : FVec Ideal S2x128x12288 .f32) : k0_pay1 (F := Ideal) u (ix3 b q j) = u (ix3 b q j) := by
  pointwise [k0_pay1]

theorem cast_apply (u : FVec Ideal S12288 .f32) : shapeCast S1x12288 u shapeCasts_S12288_S1x12288 (ix2 0 j) = u (ix1 j) := by
  pointwise

theorem sum_apply (u : FVec Ideal S2x128x12288 .f32) :
    multiReduction (F := Ideal) .add [0, 1] S12288 u 0x00000000#32 reduces_S2x128x12288_S12288 (.inl rfl) rfl (ix1 j) = ∑ b : Fin 2, ∑ q : Fin 128, u (ix3 b q j) := by
  exact reduceAdd01 reduces_S2x128x12288_S12288 rfl rfl u (ix1 j)

theorem pay7 : k0_pay7 (F := Ideal) g rf x (ix2 0 j) = ∑ b : Fin 2, ∑ q : Fin 128, g (ix3 b q j) * rf (ix3 b q j) * x (ix3 b q 0) := by
  unfold k0_pay7
  refine (cast_apply j _).trans ((sum_apply j _).trans ?_)
  refine Finset.sum_congr rfl fun b _ => Finset.sum_congr rfl fun q _ => ?_
  pointwise

theorem pay8 : k0_pay8 (F := Ideal) v (ix2 0 j) = ∑ b : Fin 2, ∑ q : Fin 128, v (ix3 b q j) := by
  unfold k0_pay8
  exact (cast_apply j _).trans (sum_apply j _)

end Blocks

/-! ## The results -/

section Results

variable (a0 : Vec Ideal S4x2x128x12288 .fp8e5m2) (a1 : Vec Ideal S4x2x128 .f32) (a2 : Vec Ideal S2x128x12288 .bf16) (a3 : Vec Ideal S12288 .f32)
  (a4 : Vec Ideal S2x128x12288 .bf16) (b : Fin 2) (q : Fin 128) (j : Fin 12288)

theorem g_eq : k0_pay2 (F := Ideal) a0 a1 (ix3 b q j) = Spec.g (Spec.args a0 a1 a2 a3 a4) b q j := pay2 a0 a1 b q j

theorem rstd_eq : k0_pay4 (F := Ideal) a2 (ix3 b q 0) = Rows.rstd ((Spec.args a0 a1 a2 a3 a4).r b q) := by
  rw [pay4, Rows.div_d]
  rfl

theorem gx5_eq : k0_pay5 (F := Ideal) a0 a1 a2 a3 a4 (ix3 b q j) = Spec.gx (Spec.args a0 a1 a2 a3 a4) b q j := by
  rw [pay5]
  simp only [g_eq a0 a1 a2 a3 a4, rstd_eq a0 a1 a2 a3 a4]
  exact congrArg (· + a4 (ix3 b q j)) (Rows.dr_eq _ _ (Spec.args a0 a1 a2 a3 a4).gain j)

theorem loads_eq : k0_pay13 (F := Ideal) a0 a1 a2 a3 a4 = k0_pay6 (F := Ideal) a0 a1 a2 a3 a4 := by
  unfold k0_pay13
  rw [View.ld_unit_lit _ a0 (by decide), View.ld_unit_lit _ a1 (by decide), View.ld_unit_lit _ a2 (by decide), View.ld_unit_lit _ a3 (by decide), View.ld_unit_lit _ a4 (by decide)]

/-- The reference's input gradient. -/
theorem res0 : Value.G5 (F := Ideal) a0 a1 a2 a3 a4 (ix3 b q j) = Spec.gx (Spec.args a0 a1 a2 a3 a4) b q j := by
  show k0_pay13 (F := Ideal) a0 a1 a2 a3 a4 (ix3 b q j) = _
  rw [loads_eq, pay6, gx5_eq]

/-- The reference's gain gradient. -/
theorem res1 : Value.G6 (F := Ideal) a0 a1 a2 a3 a4 (ix2 0 j) = Spec.dgain (Spec.args a0 a1 a2 a3 a4) j := by
  refine (pay7 _ _ _ j).trans ?_
  refine Finset.sum_congr rfl fun b _ => Finset.sum_congr rfl fun q _ => ?_
  rw [g_eq a0 a1 a2 a3 a4, rstd_eq a0 a1 a2 a3 a4, pay3]
  exact Rows.h_eq (Spec.g (Spec.args a0 a1 a2 a3 a4) b q) ((Spec.args a0 a1 a2 a3 a4).r b q) j

/-- The reference's bias gradient. -/
theorem res2 : Value.G7 (F := Ideal) a0 a1 a2 a3 a4 (ix2 0 j) = Spec.dbias (Spec.args a0 a1 a2 a3 a4) j := by
  refine (pay8 _ j).trans ?_
  exact Finset.sum_congr rfl fun b _ => Finset.sum_congr rfl fun q _ => gx5_eq a0 a1 a2 a3 a4 b q j

theorem exp_eq : k0_pay10 (F := Ideal) (k0_pay13 (F := Ideal) a0 a1 a2 a3 a4) (ix2 b q) = Exponent.expR (Spec.ratio (Spec.gx (Spec.args a0 a1 a2 a3 a4) b q)) := by
  rw [pay10_eq, expOf_apply, maxOf_apply, Spec.bot_f32]
  simp only [pay9]
  have e : ∀ x, k0_pay13 (F := Ideal) a0 a1 a2 a3 a4 (ix3 b q x) = Spec.gx (Spec.args a0 a1 a2 a3 a4) b q x := res0 a0 a1 a2 a3 a4 b q
  simp only [e]
  rfl

/-- The reference's codes. -/
theorem res3 : Value.G8 (F := Ideal) a0 a1 a2 a3 a4 (ix3 b q j) = Spec.code (Spec.args a0 a1 a2 a3 a4) b q j := by
  refine (pay1 b q j _).trans ?_
  rw [pay12_eq, codesOf_apply, exp_eq, pay9]
  have e : k0_pay13 (F := Ideal) a0 a1 a2 a3 a4 (ix3 b q j) = Spec.gx (Spec.args a0 a1 a2 a3 a4) b q j := res0 a0 a1 a2 a3 a4 b q j
  rw [e]
  rfl

/-- The reference's scales. -/
theorem res4 : Value.G9 (F := Ideal) a0 a1 a2 a3 a4 (ix2 b q) = Spec.scale (Spec.args a0 a1 a2 a3 a4) b q := by
  show k0_pay11 (F := Ideal) (k0_pay13 (F := Ideal) a0 a1 a2 a3 a4) (ix2 b q) = _
  rw [pay11_eq, exp2_apply, exp_eq]
  rfl

end Results

end Cert.ReferenceIdeal.Body

end
-- ==== Proof.KernelIdeal.Value.lean ====
/-
  The kernel's result arrays after every run: the reference's terms of the arguments.
-/
module

public import proofs.«01_k».proof.Proof.KernelIdeal.Sums
public import proofs.«01_k».proof.Proof.KernelIdeal.Scales
public import proofs.«01_k».proof.Proof.ReferenceIdeal.Pay

@[expose] public section

set_option maxRecDepth 16384

noncomputable section

namespace Cert.KernelIdeal.Body

open Idealize.ShloMosaic Idealize.ShloMosaic.TcCoe
open Idealize.SL Idealize.SL.Sem
open Idealize.ShloMosaic.VecWindow (window put)
open Cert.KernelIdeal.Gen

variable (m : (ℓ : Loc nD τ sig) → Buf (Elt Ideal) ℓ) (c : Dev nD)

section

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

/-- The gradient. -/
theorem final5 : ((rdat m c).withAfter after).arrAt 5 cfg0.N
    = Cert.ReferenceIdeal.Value.G5 (m ((c : Thread nD τ).loc main_arg0)) (m ((c : Thread nD τ).loc main_arg1)) (m ((c : Thread nD τ).loc main_arg2))
        (m ((c : Thread nD τ).loc main_arg3)) (m ((c : Thread nD τ).loc main_arg4)) := by
  refine ((rdat m c).withAfter after).arrAt_eq_of_covers 5 _ (by decide +kernel) fun t hf y => ?_
  obtain ⟨Y, -, hX⟩ := hL 5 t hf
  have e : after 5 t = gxBlk (grid0.coords t) (iblk m c 0 t) (iblk m c 1 t) (iblk m c 2 t) (iblk m c 3 t) (iblk m c 4 t) := hX
  have key : ∀ (q : Fin 32) (j : Fin 12288), gxBlk (grid0.coords t) (iblk m c 0 t) (iblk m c 1 t) (iblk m c 2 t) (iblk m c 3 t) (iblk m c 4 t) (ix3 0 q j)
      = Cert.ReferenceIdeal.Value.G5 (m ((c : Thread nD τ).loc main_arg0)) (m ((c : Thread nD τ).loc main_arg1)) (m ((c : Thread nD τ).loc main_arg2)) (m ((c : Thread nD τ).loc main_arg3)) (m ((c : Thread nD τ).loc main_arg4))
          (ix3 ⟨t.val / 4, by have := points t; omega⟩ ⟨t.val % 4 * 32 + q.val, by omega⟩ j) := by
    intro q j
    rw [gxBlk_eq (isBlk m c t), batch_eq, tok_eq]
    exact (Cert.ReferenceIdeal.Body.res0 _ _ _ _ _ _ _ _).symm
  blk_simp
  rw [Pipeline.RDat.withAfter_after, e]
  idx_vars y
  obtain rfl : y0 = 0 := Subsingleton.elim _ _
  refine (key y1 y2).trans ?_
  blk_ext [idx t]

/-- The codes. -/
theorem final8 : ((rdat m c).withAfter after).arrAt 8 cfg0.N
    = Cert.ReferenceIdeal.Value.G8 (m ((c : Thread nD τ).loc main_arg0)) (m ((c : Thread nD τ).loc main_arg1)) (m ((c : Thread nD τ).loc main_arg2))
        (m ((c : Thread nD τ).loc main_arg3)) (m ((c : Thread nD τ).loc main_arg4)) := by
  refine ((rdat m c).withAfter after).arrAt_eq_of_covers 8 _ (by decide +kernel) fun t hf y => ?_
  obtain ⟨Y, -, hX⟩ := hL 8 t hf
  have e : after 8 t = codesBlk (grid0.coords t) (iblk m c 0 t) (iblk m c 1 t) (iblk m c 2 t) (iblk m c 3 t) (iblk m c 4 t) := hX
  have key : ∀ (q : Fin 32) (j : Fin 12288), codesBlk (grid0.coords t) (iblk m c 0 t) (iblk m c 1 t) (iblk m c 2 t) (iblk m c 3 t) (iblk m c 4 t) (ix3 0 q j)
      = Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4))
          (ix3 ⟨t.val / 4, by have := points t; omega⟩ ⟨t.val % 4 * 32 + q.val, by omega⟩ j) := by
    intro q j
    rw [codes_eq (isBlk m c t), batch_eq, tok_eq]
    exact (Cert.ReferenceIdeal.Body.res3 _ _ _ _ _ _ _ _).symm
  blk_simp
  rw [Pipeline.RDat.withAfter_after, e]
  idx_vars y
  obtain rfl : y0 = 0 := Subsingleton.elim _ _
  refine (key y1 y2).trans ?_
  blk_ext [idx t]

/-- The gain's gradient. -/
theorem final6 : ((rdat m c).withAfter after).arrAt 6 cfg0.N
    = Cert.ReferenceIdeal.Value.G6 (m ((c : Thread nD τ).loc main_arg0)) (m ((c : Thread nD τ).loc main_arg1)) (m ((c : Thread nD τ).loc main_arg2))
        (m ((c : Thread nD τ).loc main_arg3)) (m ((c : Thread nD τ).loc main_arg4)) := by
  refine ((rdat m c).withAfter after).arrAt_eq_of_covers 6 _ (by decide +kernel) fun t hf y => ?_
  have h7 : t.val = 7 := by
    have := (flush0_6 t).mp hf
    have := points t
    omega
  obtain ⟨Y, -, hX⟩ := hL 6 t hf
  have e : after 6 t = k0_pay3 (accs m c t.val t.isLt).1 := hX h7
  have key : ∀ j : Fin 12288, k0_pay3 (accs m c t.val t.isLt).1 (ix2 0 j)
      = Cert.ReferenceIdeal.Value.G6 (m ((c : Thread nD τ).loc main_arg0)) (m ((c : Thread nD τ).loc main_arg1)) (m ((c : Thread nD τ).loc main_arg2)) (m ((c : Thread nD τ).loc main_arg3)) (m ((c : Thread nD τ).loc main_arg4)) (ix2 0 j) := by
    intro j
    rw [gain_total m c t h7]
    exact (Cert.ReferenceIdeal.Body.res1 _ _ _ _ _ _).symm
  blk_simp
  rw [Pipeline.RDat.withAfter_after, e]
  idx_vars y
  obtain rfl : y0 = 0 := Subsingleton.elim _ _
  refine (key y1).trans ?_
  blk_ext [idx t]

/-- The bias's gradient. -/
theorem final7 : ((rdat m c).withAfter after).arrAt 7 cfg0.N
    = Cert.ReferenceIdeal.Value.G7 (m ((c : Thread nD τ).loc main_arg0)) (m ((c : Thread nD τ).loc main_arg1)) (m ((c : Thread nD τ).loc main_arg2))
        (m ((c : Thread nD τ).loc main_arg3)) (m ((c : Thread nD τ).loc main_arg4)) := by
  refine ((rdat m c).withAfter after).arrAt_eq_of_covers 7 _ (by decide +kernel) fun t hf y => ?_
  have h7 : t.val = 7 := by
    have := (flush0_7 t).mp hf
    have := points t
    omega
  obtain ⟨Y, -, hX⟩ := hL 7 t hf
  have e : after 7 t = k0_pay4 (accs m c t.val t.isLt).2 := hX h7
  have key : ∀ j : Fin 12288, k0_pay4 (accs m c t.val t.isLt).2 (ix2 0 j)
      = Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (ix2 0 j) := by
    intro j
    rw [bias_total m c t h7]
    exact (Cert.ReferenceIdeal.Body.res2 _ _ _ _ _ _).symm
  blk_simp
  rw [Pipeline.RDat.withAfter_after, e]
  idx_vars y
  obtain rfl : y0 = 0 := Subsingleton.elim _ _
  refine (key y1).trans ?_
  blk_ext [idx t]

/-- The codes' scales. -/
theorem final9 : ((rdat m c).withAfter after).arrAt 9 cfg0.N
    = Cert.ReferenceIdeal.Value.G9 (m ((c : Thread nD τ).loc main_arg0)) (m ((c : Thread nD τ).loc main_arg1)) (m ((c : Thread nD τ).loc main_arg2))
        (m ((c : Thread nD τ).loc main_arg3)) (m ((c : Thread nD τ).loc main_arg4)) := by
  refine ((rdat m c).withAfter after).arrAt_eq_of_covers 9 _ (by decide +kernel) fun t hf y => ?_
  have h7 : t.val = 7 := by
    have := (flush0_9 t).mp hf
    have := points t
    omega
  have hX := hL 9 t hf
  have key : ∀ X : Vec Ideal S2x128 .f32, (rdat m c).Leaves 9 t X → ∀ (b : Fin 2) (l : Fin 128), X (ix2 b l)
      = Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (ix2 b l) := by
    intro X hX b l
    refine (scale_total m c t h7 X hX b l).trans ?_
    exact (Cert.ReferenceIdeal.Body.res4 _ _ _ _ _ _ _).symm
  blk_simp
  rw [Pipeline.RDat.withAfter_after]
  idx_vars y
  refine (key (after 9 t) hX y0 y1).trans ?_
  clear key hX
  refine congrArg (Cert.ReferenceIdeal.Value.G9 _ _ _ _ _) ?_
  blk_ext [idx t]

end

/-- Every run ends with each result array at the reference's term of the arguments, and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = Cert.ReferenceIdeal.Value.G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_1) = Cert.ReferenceIdeal.Value.G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_2) = Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_3) = Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1_4) = Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨after, hL, hA⟩ := h.1.exists_exact c
    exact ⟨(hA 5).trans (final5 m c after hL), (hA 6).trans (final6 m c after hL), (hA 7).trans (final7 m c after hL),
      (hA 8).trans (final8 m c after hL), (hA 9).trans (final9 m c after hL), args_kept m r h.1 c⟩)
    (run_main m ρ)

end Cert.KernelIdeal.Body

end
-- ==== Proof.lean ====
/-
  The proof of `Cert.Claim`: the two programs and the reference run and leave their arguments unchanged, the program's
  idealization is the sanctioned one, and over the extended reals its five results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.KernelIdeal.Value
public import Idealize.ShloMosaic.Adequacy
public import Idealize.ShloMosaic.Init

@[expose] public section

set_option maxRecDepth 16384

noncomputable section

namespace Cert.Proof

open Idealize.ShloMosaic Idealize.SL.Sem Cert.Kernel

/-- Both runs end with the reference's terms of the arguments. -/
theorem algebraic [hKernelIdeal : Cert.KernelIdeal.Facts] [hReferenceIdeal : Cert.ReferenceIdeal.Facts] :
    Cert.algebraic_KernelIdeal_ReferenceIdeal := by
  intro m g m' g' _ hargs
  refine ⟨fun c => Cert.ReferenceIdeal.Value.G5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Value.G6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Value.G7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Value.G8 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Value.G9 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Body.run m g, (θ_run _ _ _).mono (fun r h c => ?_) (Cert.ReferenceIdeal.Value.run (F := Ideal) m' g')⟩
  obtain ⟨e0, e1, e2, e3, e4⟩ := hargs c
  have hc := h c
  rw [e0, e1, e2, e3, e4] at hc
  rw [e0, e1, e2, e3, e4]
  exact hc

theorem claim : Cert.Claim := ⟨Cert.Kernel.Gen.facts, Cert.KernelIdeal.Gen.facts, Cert.ReferenceIdeal.Gen.facts,
  fun m g _ => Cert.Kernel.Body.frame m g, fun m g _ => Cert.KernelIdeal.Body.frame m g,
  fun m g _ => Cert.ReferenceIdeal.Gen.frame m g,
  IdealRules.named_const.statement Cert.KernelIdeal.κ "inv_d" .f32 0x38AAAAAB#32 _ rfl, algebraic⟩

end Cert.Proof

end
